-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ok [hPre_ok : Cert.Pre_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ok [hPre_ok : Cert.Pre_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ok [hKernelIdeal : Cert.KernelIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ok [hReferenceIdeal : Cert.ReferenceIdeal.Facts] [hPre_ok : Cert.Pre_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e_inv_sqrt_d" .f32 0x3E0293EE#32 (((Real.log 2)⁻¹ * (Real.sqrt 128)⁻¹ : ℝ) : EReal)

def algebraic_KernelIdeal_ReferenceIdeal_pre_ok [hKernelIdeal : Cert.KernelIdeal.Facts] [hReferenceIdeal : Cert.ReferenceIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ok : Cert.Pre_ok.Facts),
    quiescent_Kernel (hKernel := hKernel)
    ∧ quiescent_KernelIdeal (hKernelIdeal := hKernelIdeal)
    ∧ quiescent_KernelIdeal_pre_ok (hKernelIdeal := hKernelIdeal) (hPre_ok := hPre_ok)
    ∧ quiescent_ReferenceIdeal (hReferenceIdeal := hReferenceIdeal)
    ∧ quiescent_ReferenceIdeal_pre_ok (hReferenceIdeal := hReferenceIdeal) (hPre_ok := hPre_ok)
    ∧ preserves_Kernel_KernelIdeal
    ∧ algebraic_KernelIdeal_ReferenceIdeal_pre_ok (hKernelIdeal := hKernelIdeal) (hReferenceIdeal := hReferenceIdeal) (hPre_ok := hPre_ok)
-- ==== Pre_ok.lean ====
abbrev S2x1024x3840 : Shape := ⟨3, ![2, 1024, 3840]⟩
abbrev S2x1024x768 : Shape := ⟨3, ![2, 1024, 768]⟩
abbrev S30 : Shape := ⟨1, ![30]⟩
abbrev S6 : Shape := ⟨1, ![6]⟩
abbrev S_ : Shape := ⟨0, ![]⟩

class Facts : Prop where
  bcast_S_S30 : S_.BroadcastsInDim S30 (![] : Fin 0 → Fin S30.rank)

variable [Facts]

def fn {F : FTy → Type} [FloatOps F] (main_arg0 : FVec F S2x1024x3840 .fp8e4m3) (main_arg1 : FVec F S2x1024x768 .fp8e4m3) (main_arg2 : FVec F S2x1024x768 .fp8e4m3) (main_arg3 : FVec F S30 .f32) (main_arg4 : FVec F S6 .f32) (main_arg5 : FVec F S6 .f32) (main_arg6 : FVec F S30 .f32) : IVec S30 1 :=
  let main_cst : FVec F S_ .f32 := constant S_ .f32 0x00000000#32
  let main_v0 : FVec F S30 .f32 := broadcastInDim S30 ![] bcast_S_S30 main_cst
  let main_v1 : IVec S30 1 := cmpf .ogt main_arg6 main_v0
  let main_cst_0 : FVec F S_ .f32 := constant S_ .f32 0x7F800000#32
  let main_v2 : FVec F S30 .f32 := broadcastInDim S30 ![] bcast_S_S30 main_cst_0
  let main_v3 : IVec S30 1 := cmpf .olt main_arg6 main_v2
  let main_v4 : IVec S30 1 := andi main_v1 main_v3
  main_v4
-- ==== Kernel.lean ====
abbrev S2x1024x3840 : Shape := ⟨3, ![2, 1024, 3840]⟩
abbrev S2x1024x768 : Shape := ⟨3, ![2, 1024, 768]⟩
abbrev S30 : Shape := ⟨1, ![30]⟩
abbrev S6 : Shape := ⟨1, ![6]⟩
abbrev S1x30 : Shape := ⟨2, ![1, 30]⟩
abbrev S1x1024x640 : Shape := ⟨3, ![1, 1024, 640]⟩
abbrev S1x1024x128 : Shape := ⟨3, ![1, 1024, 128]⟩
abbrev S128x1024 : Shape := ⟨2, ![128, 1024]⟩
abbrev S2x1024x256 : Shape := ⟨3, ![2, 1024, 256]⟩
abbrev S128x128 : Shape := ⟨2, ![128, 128]⟩
abbrev S1x128x128 : Shape := ⟨3, ![1, 128, 128]⟩
abbrev S1 : Shape := ⟨1, ![1]⟩
abbrev S8x128 : Shape := ⟨2, ![8, 128]⟩
abbrev S1x256x128 : Shape := ⟨3, ![1, 256, 128]⟩
abbrev S256x128 : Shape := ⟨2, ![256, 128]⟩
abbrev S256x256 : Shape := ⟨2, ![256, 256]⟩
abbrev S8x256 : Shape := ⟨2, ![8, 256]⟩
abbrev S256 : Shape := ⟨1, ![256]⟩
abbrev S1x256 : Shape := ⟨2, ![1, 256]⟩
abbrev S1x128 : Shape := ⟨2, ![1, 128]⟩
abbrev S128x256 : Shape := ⟨2, ![128, 256]⟩
abbrev S1x256x256 : Shape := ⟨3, ![1, 256, 256]⟩
abbrev S128 : Shape := ⟨1, ![128]⟩
abbrev S1x1 : Shape := ⟨2, ![1, 1]⟩

abbrev nBuf : Space → Nat
  | .hbm => 9
  | .vmem => 12
  | .smem => 4
  | _ => 0

abbrev bufTy : (tb : Table) → Fin (tcTables nBuf tb) → BufTy
  | .hbm, ⟨0, _⟩ => ⟨S2x1024x3840, .fp8e4m3⟩
  | .hbm, ⟨1, _⟩ => ⟨S2x1024x768, .fp8e4m3⟩
  | .hbm, ⟨2, _⟩ => ⟨S2x1024x768, .fp8e4m3⟩
  | .hbm, ⟨3, _⟩ => ⟨S30, .f32⟩
  | .hbm, ⟨4, _⟩ => ⟨S6, .f32⟩
  | .hbm, ⟨5, _⟩ => ⟨S6, .f32⟩
  | .hbm, ⟨6, _⟩ => ⟨S30, .f32⟩
  | .hbm, ⟨7, _⟩ => ⟨S2x1024x3840, .fp8e4m3⟩
  | .hbm, ⟨8, _⟩ => ⟨S1x30, .f32⟩
  | .local _ .vmem, ⟨0, _⟩ => ⟨S1x1024x640, .fp8e4m3⟩
  | .local _ .vmem, ⟨1, _⟩ => ⟨S1x1024x640, .fp8e4m3⟩
  | .local _ .vmem, ⟨2, _⟩ => ⟨S1x1024x128, .fp8e4m3⟩
  | .local _ .vmem, ⟨3, _⟩ => ⟨S1x1024x128, .fp8e4m3⟩
  | .local _ .vmem, ⟨4, _⟩ => ⟨S1x1024x128, .fp8e4m3⟩
  | .local _ .vmem, ⟨5, _⟩ => ⟨S1x1024x128, .fp8e4m3⟩
  | .local _ .vmem, ⟨6, _⟩ => ⟨S1x1024x640, .fp8e4m3⟩
  | .local _ .vmem, ⟨7, _⟩ => ⟨S1x1024x640, .fp8e4m3⟩
  | .local _ .vmem, ⟨8, _⟩ => ⟨S1x30, .f32⟩
  | .local _ .vmem, ⟨9, _⟩ => ⟨S128x1024, .bf16⟩
  | .local _ .vmem, ⟨10, _⟩ => ⟨S2x1024x256, .f32⟩
  | .local _ .vmem, ⟨11, _⟩ => ⟨S128x128, .f32⟩
  | .local _ .smem, ⟨0, _⟩ => ⟨S30, .f32⟩
  | .local _ .smem, ⟨1, _⟩ => ⟨S6, .f32⟩
  | .local _ .smem, ⟨2, _⟩ => ⟨S6, .f32⟩
  | .local _ .smem, ⟨3, _⟩ => ⟨S30, .f32⟩
  | _, _ => ⟨S2x1024x3840, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![6, 2], ![false, false]⟩

def k0_off1 (i : grid0.Coords) (c0_i32_36 : BitVec 32) : Fin 1 → Nat :=
  let arg0 : BitVec 32 := BitVec.ofNat 32 (i 0).val
  let c5_i32 : BitVec 32 := 5#32
  let v64 : BitVec 32 := Scalar.muli arg0 c5_i32
  let v65 : BitVec 32 := Scalar.addi v64 c0_i32_36
  let v66 : Index := Scalar.indexCast v65
  ![v66.toNat]
def k0_off2 (i : grid0.Coords) : Fin 1 → Nat :=
  let arg0 : BitVec 32 := BitVec.ofNat 32 (i 0).val
  let v68 : Index := Scalar.indexCast arg0
  ![v68.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S30 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S30 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x640 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x640 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x30 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== KernelIdeal.lean ====
variable {F : FTy → Type} [FloatOps F] [Named F]
def κ : String → Option EReal := fun
  | "log2e_inv_sqrt_d" => some (((Real.log 2)⁻¹ * (Real.sqrt 128)⁻¹ : ℝ) : EReal)
  | _ => none
-- ==== ReferenceIdeal.lean ====
abbrev S2x1024x3840 : Shape := ⟨3, ![2, 1024, 3840]⟩
abbrev S2x1024x768 : Shape := ⟨3, ![2, 1024, 768]⟩
abbrev S30 : Shape := ⟨1, ![30]⟩
abbrev S6 : Shape := ⟨1, ![6]⟩
abbrev S1x30 : Shape := ⟨2, ![1, 30]⟩
abbrev S2x1024x6x5x128 : Shape := ⟨5, ![2, 1024, 6, 5, 128]⟩
abbrev S2x6x5x1024x128 : Shape := ⟨5, ![2, 6, 5, 1024, 128]⟩
abbrev S2x1024x6x128 : Shape := ⟨4, ![2, 1024, 6, 128]⟩
abbrev S2x6x1024x128 : Shape := ⟨4, ![2, 6, 1024, 128]⟩
abbrev S6x5 : Shape := ⟨2, ![6, 5]⟩
abbrev S6x1 : Shape := ⟨2, ![6, 1]⟩
abbrev S2x6x5x1024x1024 : Shape := ⟨5, ![2, 6, 5, 1024, 1024]⟩
abbrev S1x6x5x1x1 : Shape := ⟨5, ![1, 6, 5, 1, 1]⟩
abbrev S2x6x5x1024 : Shape := ⟨4, ![2, 6, 5, 1024]⟩
abbrev S2x6x5x1024x1 : Shape := ⟨5, ![2, 6, 5, 1024, 1]⟩
abbrev S1x6x1x1x1 : Shape := ⟨5, ![1, 6, 1, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x1024x3840, .fp8e4m3⟩
  | .hbm, ⟨1, _⟩ => ⟨S2x1024x768, .fp8e4m3⟩
  | .hbm, ⟨2, _⟩ => ⟨S2x1024x768, .fp8e4m3⟩
  | .hbm, ⟨3, _⟩ => ⟨S30, .f32⟩
  | .hbm, ⟨4, _⟩ => ⟨S6, .f32⟩
  | .hbm, ⟨5, _⟩ => ⟨S6, .f32⟩
  | .hbm, ⟨6, _⟩ => ⟨S30, .f32⟩
  | .hbm, ⟨7, _⟩ => ⟨S2x1024x3840, .fp8e4m3⟩
  | .hbm, ⟨8, _⟩ => ⟨S1x30, .f32⟩
  | .local _ .vmem, ⟨0, _⟩ => ⟨S2x1024x3840, .fp8e4m3⟩
  | .local _ .vmem, ⟨1, _⟩ => ⟨S2x1024x768, .fp8e4m3⟩
  | .local _ .vmem, ⟨2, _⟩ => ⟨S2x1024x768, .fp8e4m3⟩
  | .local _ .vmem, ⟨3, _⟩ => ⟨S30, .f32⟩
  | .local _ .vmem, ⟨4, _⟩ => ⟨S6, .f32⟩
  | .local _ .vmem, ⟨5, _⟩ => ⟨S6, .f32⟩
  | .local _ .vmem, ⟨6, _⟩ => ⟨S30, .f32⟩
  | .local _ .vmem, ⟨7, _⟩ => ⟨S2x1024x3840, .fp8e4m3⟩
  | .local _ .vmem, ⟨8, _⟩ => ⟨S1x30, .f32⟩
  | _, _ => ⟨S2x1024x3840, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x1024x3840 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S30 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S30 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x3840 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x30 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.ReferenceArrays.lean ====
module

public import proofs.«01_k».proof.Proof.Gen.ReferenceIdeal.Frame
public import Idealize.ShloMosaic.Lib.Pipeline.Value

/-! # What the reference's two result arrays hold after the run

The reference is one gridless region, so every window's block is its whole array. `run` says that after the run the
codes are `G7` of the seven arguments and the maxima are `G8` of them, the printed payloads applied to the arguments. -/

@[expose] public section

set_option maxRecDepth 16384

noncomputable section

namespace Cert.ReferenceIdeal.Arrays

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Arguments and result arrays by name -/

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-! ## Closed form at one grid point: every window's block is its array -/

/-- The window of operand 0 starts at the origin. -/
theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x1024x3840.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 1024 + 1 * (j 1).val = (j 1).val; omega
  | ⟨2, _⟩ => show win0_0.index t (2 : Fin 3) * 3840 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- The window of operand 1 starts at the origin. -/
theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2x1024x768.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 1024 + 1 * (j 1).val = (j 1).val; omega
  | ⟨2, _⟩ => show win0_1.index t (2 : Fin 3) * 768 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- The window of operand 2 starts at the origin. -/
theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S2x1024x768.Idx) : ((cfg0.win 2).blk t).view.emb j = j := by
  obtain ⟨e0, e1, e2⟩ := idx_zero2 t
  funext a; apply Fin.ext
  match a with
  | ⟨0, _⟩ => show win0_2.index t (0 : Fin 3) * 2 + 1 * (j 0).val = (j 0).val; omega
  | ⟨1, _⟩ => show win0_2.index t (1 : Fin 3) * 1024 + 1 * (j 1).val = (j 1).val; omega
  | ⟨2, _⟩ => show win0_2.index t (2 : Fin 3) * 768 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

/-- The window of operand 3 starts at the origin. -/
theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S30.Idx) : ((cfg0.win 3).blk t).view.emb j = j := by
  have e0 := idx_zero3 t
  funext a; apply Fin.ext
  match a with
  | ⟨0, _⟩ => show win0_3.index t (0 : Fin 1) * 30 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

/-- The window of operand 4 starts at the origin. -/
theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S6.Idx) : ((cfg0.win 4).blk t).view.emb j = j := by
  have e0 := idx_zero4 t
  funext a; apply Fin.ext
  match a with
  | ⟨0, _⟩ => show win0_4.index t (0 : Fin 1) * 6 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

/-- The window of operand 5 starts at the origin. -/
theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S6.Idx) : ((cfg0.win 5).blk t).view.emb j = j := by
  have e0 := idx_zero5 t
  funext a; apply Fin.ext
  match a with
  | ⟨0, _⟩ => show win0_5.index t (0 : Fin 1) * 6 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

/-- The window of operand 6 starts at the origin. -/
theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S30.Idx) : ((cfg0.win 6).blk t).view.emb j = j := by
  have e0 := idx_zero6 t
  funext a; apply Fin.ext
  match a with
  | ⟨0, _⟩ => show win0_6.index t (0 : Fin 1) * 30 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

/-- The window of operand 7 starts at the origin. -/
theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S2x1024x3840.Idx) : ((cfg0.win 7).blk t).view.emb j = j := by
  obtain ⟨e0, e1, e2⟩ := idx_zero7 t
  funext a; apply Fin.ext
  match a with
  | ⟨0, _⟩ => show win0_7.index t (0 : Fin 3) * 2 + 1 * (j 0).val = (j 0).val; omega
  | ⟨1, _⟩ => show win0_7.index t (1 : Fin 3) * 1024 + 1 * (j 1).val = (j 1).val; omega
  | ⟨2, _⟩ => show win0_7.index t (2 : Fin 3) * 3840 + 1 * (j 2).val = (j 2).val; omega

/-- The window of operand 8 starts at the origin. -/
theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S1x30.Idx) : ((cfg0.win 8).blk t).view.emb j = j := by
  obtain ⟨e0, e1⟩ := idx_zero8 t
  funext a; apply Fin.ext
  match a with
  | ⟨0, _⟩ => show win0_8.index t (0 : Fin 2) * 1 + 1 * (j 0).val = (j 0).val; omega
  | ⟨1, _⟩ => show win0_8.index t (1 : Fin 2) * 30 + 1 * (j 1).val = (j 1).val; omega

/-! ### Output window 7: the array after the run -/

/-- What the window's array ends holding: `out0_7` applied to the argument arrays in place of the input blocks (a value that the
    frame states apart, `kK_payN a…`, keeps its loads inside its own definition). -/
abbrev G7 (a0 : Vec F S2x1024x3840 .fp8e4m3) (a1 : Vec F S2x1024x768 .fp8e4m3) (a2 : Vec F S2x1024x768 .fp8e4m3) (a3 : Vec F S30 .f32) (a4 : Vec F S6 .f32) (a5 : Vec F S6 .f32) (a6 : Vec F S30 .f32) : Vec F S2x1024x3840 .fp8e4m3 :=
  k0_pay3 (k0_pay5 a0 a1 a2 a3 a4 a5 a6) a5 a6

/-- A load of the whole of a block reads the block, and the one store through the whole rectangle leaves its payload. -/
theorem out7_eq (a0 : Vec F S2x1024x3840 .fp8e4m3) (a1 : Vec F S2x1024x768 .fp8e4m3) (a2 : Vec F S2x1024x768 .fp8e4m3) (a3 : Vec F S30 .f32) (a4 : Vec F S6 .f32) (a5 : Vec F S6 .f32) (a6 : Vec F S30 .f32) : out0_7 (F := F) a0 a1 a2 a3 a4 a5 a6 = G7 a0 a1 a2 a3 a4 a5 a6 := by
  unfold out0_7
  rw [View.canon_unit_zero hz7, View.ld_unit_zero (S := S6) hz5 _ a5, View.ld_unit_zero (S := S30) hz6 _ a6]

/-- Cutting the point's block out of `X` and reading `X` through the block's view give the same. -/
theorem cut7_eq (t : Fin cfg0.N) (X : Vec F S2x1024x3840 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5) (V m c main_arg6)) := by
  show (cfg0.win 7).cut (grid0.coords t) ((dats m 0 c).after 7 t) = _
  rw [after0_7, out7_eq, iblk0_eq, iblk1_eq, iblk2_eq, iblk3_eq, iblk4_eq, iblk5_eq, iblk6_eq]
  exact cut7_eq t _

/-- Every index of the array is in the point's block. -/
theorem covered7 (i : S2x1024x3840.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 7 (G7 (V m c main_arg0) (V m c main_arg1) (V m c main_arg2) (V m c main_arg3) (V m c main_arg4) (V m c main_arg5) (V m c main_arg6)) (fun t _ => flushed7_eq m c t) covered7).trans (by rw [V_main_arg0, V_main_arg1, V_main_arg2, V_main_arg3, V_main_arg4, V_main_arg5, V_main_arg6])

/-! ### Output window 8: the array after the run -/

/-- What the window's array ends holding: `out0_8` applied to the argument arrays in place of the input blocks (a value that the
    frame states apart, `kK_payN a…`, keeps its loads inside its own definition). -/
abbrev G8 (a0 : Vec F S2x1024x3840 .fp8e4m3) (a1 : Vec F S2x1024x768 .fp8e4m3) (a2 : Vec F S2x1024x768 .fp8e4m3) (a3 : Vec F S30 .f32) (a4 : Vec F S6 .f32) (a5 : Vec F S6 .f32) (a6 : Vec F S30 .f32) : Vec F S1x30 .f32 :=
  k0_pay2 (k0_pay5 a0 a1 a2 a3 a4 a5 a6) a5

/-- A load of the whole of a block reads the block, and the one store through the whole rectangle leaves its payload. -/
theorem out8_eq (a0 : Vec F S2x1024x3840 .fp8e4m3) (a1 : Vec F S2x1024x768 .fp8e4m3) (a2 : Vec F S2x1024x768 .fp8e4m3) (a3 : Vec F S30 .f32) (a4 : Vec F S6 .f32) (a5 : Vec F S6 .f32) (a6 : Vec F S30 .f32) : out0_8 (F := F) a0 a1 a2 a3 a4 a5 a6 = G8 a0 a1 a2 a3 a4 a5 a6 := by
  unfold out0_8
  rw [View.canon_unit_zero hz8, View.ld_unit_zero (S := S6) hz5 _ a5]

/-- Cutting the point's block out of `X` and reading `X` through the block's view give the same. -/
theorem cut8_eq (t : Fin cfg0.N) (X : Vec F S1x30 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6)) := by
  show (cfg0.win 8).cut (grid0.coords t) ((dats m 0 c).after 8 t) = _
  rw [after0_8, out8_eq, iblk0_eq, iblk1_eq, iblk2_eq, iblk3_eq, iblk4_eq, iblk5_eq, iblk6_eq]
  exact cut8_eq t _

/-- Every index of the array is in the point's block. -/
theorem covered8 (i : S1x30.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 8 (G8 (V m c main_arg0) (V m c main_arg1) (V m c main_arg2) (V m c main_arg3) (V m c main_arg4) (V m c main_arg5) (V m c main_arg6)) (fun t _ => flushed8_eq m c t) covered8).trans (by rw [V_main_arg0, V_main_arg1, V_main_arg2, V_main_arg3, V_main_arg4, V_main_arg5, V_main_arg6])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.Arrays

end
-- ==== Proof.RowMath.lean ====
module

public import Idealize.ShloMosaic.PureOps.Ideal.Laws
public import Mathlib.Analysis.SpecialFunctions.Pow.Real

/-! # The algebra of one softmax row over the extended reals

One query row: scores `s x`, values `v x`, an output scale `os` that is a positive real, a value scale `vs` that may be
anything. The kernel works with the base-two exponential of scores multiplied by `1 / log 2`, sums the unnormalised
exponentials against the values and divides once; the reference works with the natural exponential and normalises the
weights first. The two rows are equal with no hypothesis on the scores, the values or `vs`. -/

@[expose] public section

noncomputable section

namespace Cert.RowMath

open Idealize.ShloMosaic

/-- `1 / log 2`, the factor that turns a natural exponential into a base-two one. -/
def log2e : ℝ := (Real.log 2)⁻¹

/-- The change of base is positive. -/
theorem log2e_pos : 0 < log2e := inv_pos.mpr (Real.log_pos (by norm_num))

/-- The base-two exponential of `x / log 2` is the natural exponential of `x`, at the infinities too. -/
theorem exp2_mul_log2e (x : EReal) : Ideal.exp2 (x * (log2e : EReal)) = Ideal.exp x := by
  induction x using EReal.rec with
  | bot => rw [EReal.bot_mul_coe_of_pos log2e_pos]; rfl
  | top => rw [EReal.top_mul_coe_of_pos log2e_pos]; rfl
  | coe r =>
    rw [← EReal.coe_mul, Ideal.exp2_coe, Ideal.exp_coe]
    congr 1
    show (2 : ℝ) ^ (r * log2e) = Real.exp r
    rw [Real.rpow_def_of_pos (by norm_num : (0 : ℝ) < 2), log2e]
    congr 1
    have : Real.log 2 ≠ 0 := (Real.log_pos (by norm_num)).ne'
    field_simp

/-- A positive real factor distributes over a difference. -/
theorem sub_mul_coe {c : ℝ} (hc : 0 < c) (x y : EReal) : (x - y) * (c : EReal) = x * c - y * c := by
  induction x using EReal.rec <;> induction y using EReal.rec
  all_goals
    first
    | (norm_cast; ring1)
    | simp [EReal.bot_mul_coe_of_pos hc, EReal.top_mul_coe_of_pos hc, ← EReal.coe_mul, EReal.bot_sub,
        EReal.coe_sub_bot, EReal.top_sub_coe, sub_eq_add_neg, ← EReal.coe_neg]

/-- A positive real factor distributes over a sum. -/
theorem add_mul_coe {c : ℝ} (hc : 0 < c) (x y : EReal) : (x + y) * (c : EReal) = x * c + y * c := by
  induction x using EReal.rec <;> induction y using EReal.rec
  all_goals
    first
    | (norm_cast; ring1)
    | simp [EReal.bot_mul_coe_of_pos hc, EReal.top_mul_coe_of_pos hc, ← EReal.coe_mul]

/-- A positive real factor distributes over a finite sum. -/
theorem sum_mul_coe {ι : Type*} (S : Finset ι) {c : ℝ} (hc : 0 < c) (f : ι → EReal) :
    (∑ x ∈ S, f x) * (c : EReal) = ∑ x ∈ S, f x * c := by
  classical
  induction S using Finset.induction_on with
  | empty => simp
  | insert a S ha ih => rw [Finset.sum_insert ha, Finset.sum_insert ha, add_mul_coe hc, ih]

/-- Multiplying by a positive real is monotone. -/
theorem mul_coe_mono {c : ℝ} (hc : 0 < c) : Monotone fun x : EReal => x * (c : EReal) :=
  fun _ _ h => mul_le_mul_of_nonneg_right h (EReal.coe_nonneg.mpr hc.le)

/-- The fold of `max` from `-∞` is the supremum. -/
theorem fold_max_bot {ι : Type*} (S : Finset ι) (f : ι → EReal) : S.fold max ⊥ f = S.sup f := rfl

/-- A positive real factor passes through a supremum. -/
theorem sup_mul_coe {ι : Type*} (S : Finset ι) {c : ℝ} (hc : 0 < c) (f : ι → EReal) :
    S.sup f * (c : EReal) = S.sup fun x => f x * c :=
  Finset.comp_sup_eq_sup_comp_of_is_total _ (mul_coe_mono hc) (EReal.bot_mul_coe_of_pos hc)

/-- Division by a positive real is multiplication by its inverse. -/
theorem div_pos {c : ℝ} (hc : 0 < c) (x : EReal) : Ideal.div x (c : EReal) = x * ((c⁻¹ : ℝ) : EReal) := by
  rw [Ideal.div_coe hc.ne', one_div]

/-- The exponential is nonnegative. -/
theorem exp_nonneg (x : EReal) : 0 ≤ Ideal.exp x := by
  induction x using EReal.rec with
  | bot => exact le_refl _
  | top => exact le_top
  | coe r => exact EReal.coe_nonneg.mpr (Real.exp_pos r).le

/-- The exponential of `s - M` with `s ≤ M` is a real in `[0, 1]`. -/
theorem exp_sub_real {s M : EReal} (h : s ≤ M) : ∃ r : ℝ, 0 ≤ r ∧ Ideal.exp (s - M) = r := by
  induction s using EReal.rec with
  | bot => exact ⟨0, le_refl _, by rw [EReal.bot_sub]; rfl⟩
  | top =>
    obtain rfl := top_le_iff.mp h
    exact ⟨0, le_refl _, rfl⟩
  | coe r =>
    induction M using EReal.rec with
    | bot => exact absurd h (by simp)
    | top => exact ⟨0, le_refl _, by rw [sub_eq_add_neg, EReal.neg_top, EReal.add_bot]; rfl⟩
    | coe t => exact ⟨Real.exp (r - t), (Real.exp_pos _).le, by rw [← EReal.coe_sub]; rfl⟩

variable {ι : Type*} [Fintype ι]

/-- The softmax weight of position `x` before it is normalised. -/
def weight (s : ι → EReal) (x : ι) : EReal := Ideal.exp (s x - Finset.univ.sup s)

/-- The weight of `x` is a nonnegative real. -/
theorem weight_real (s : ι → EReal) (x : ι) : ∃ r : ℝ, 0 ≤ r ∧ weight s x = r :=
  exp_sub_real (Finset.le_sup (Finset.mem_univ x))

/-- A sum of reals is the same sum among the extended reals. -/
theorem coe_sum (w : ι → ℝ) : (∑ x, ((w x : ℝ) : EReal)) = ((∑ x, w x : ℝ) : EReal) := by
  classical
  induction (Finset.univ : Finset ι) using Finset.induction_on with
  | empty => rfl
  | insert a S ha ih => rw [Finset.sum_insert ha, Finset.sum_insert ha, ih, EReal.coe_add]

/-- The reference's row: normalised weights against the values. -/
def refRow (s v : ι → EReal) : EReal := ∑ x, weight s x * Ideal.div 1 (∑ y, weight s y) * v x

/-- The kernel's row, over scores that already carry `1 / log 2`: unnormalised weights against the values, times the
    one quotient that holds the value scale, the output scale and the sum of the weights. -/
def kerRow (s2 v : ι → EReal) (vs os : EReal) : EReal :=
  (∑ x, Ideal.exp2 (s2 x - Finset.univ.sup s2) * v x)
    * Ideal.div (Ideal.div vs os) (∑ x, Ideal.exp2 (s2 x - Finset.univ.sup s2))

/-- The kernel's base-two weight is the reference's weight. -/
theorem exp2_weight (s : ι → EReal) (x : ι) :
    Ideal.exp2 (s x * (log2e : EReal) - Finset.univ.sup fun y => s y * (log2e : EReal)) = weight s x := by
  rw [← sup_mul_coe _ log2e_pos, ← sub_mul_coe log2e_pos, exp2_mul_log2e]; rfl

/-- THE ROW EQUATION: the kernel's row is the reference's, scaled by `vs` and divided by `os`. -/
theorem kerRow_eq (s v : ι → EReal) (vs : EReal) {os : ℝ} (hos : 0 < os) :
    kerRow (fun x => s x * (log2e : EReal)) v vs os = Ideal.div (refRow s v * vs) os := by
  unfold kerRow refRow
  simp only [exp2_weight]
  choose w hw0 hw using weight_real s
  simp only [hw]
  have hsum : (∑ x, ((w x : ℝ) : EReal)) = ((∑ x, w x : ℝ) : EReal) := coe_sum w
  rw [hsum]
  rcases (Finset.sum_nonneg fun x _ => hw0 x : 0 ≤ ∑ x, w x).eq_or_lt with h | h
  · have hz : ∀ x, w x = 0 := fun x => (Finset.sum_eq_zero_iff_of_nonneg fun x _ => hw0 x).mp h.symm x (Finset.mem_univ x)
    simp [hz, div_pos hos]
  · rw [div_pos h, div_pos h, div_pos hos, div_pos hos, one_mul]
    have hd : ∑ x, ((w x : ℝ) : EReal) * (((∑ x, w x)⁻¹ : ℝ) : EReal) * v x
        = (∑ x, ((w x : ℝ) : EReal) * v x) * (((∑ x, w x)⁻¹ : ℝ) : EReal) := by
      rw [sum_mul_coe _ (inv_pos.mpr h)]
      exact Finset.sum_congr rfl fun x _ => mul_right_comm _ _ _
    rw [hd]
    ac_rfl

/-- The absolute value of the `Ideal` instance. -/
def abs (x : EReal) : EReal := max x (-x)

/-- An absolute value is at least zero. -/
theorem abs_nonneg (x : EReal) : 0 ≤ abs x := by
  rcases le_total 0 x with h | h
  · exact le_max_of_le_left h
  · exact le_max_of_le_right (EReal.neg_nonneg.mpr h)

/-- A positive real factor passes through the absolute value. -/
theorem abs_mul_coe {c : ℝ} (hc : 0 < c) (x : EReal) : abs (x * (c : EReal)) = abs x * c := by
  unfold abs
  rw [← EReal.neg_mul]
  exact ((mul_coe_mono hc).map_max).symm

/-- Dividing by a positive real and multiplying by it again does nothing. -/
theorem abs_div_mul {c : ℝ} (hc : 0 < c) (x : EReal) : abs (Ideal.div x c) * (c : EReal) = abs x := by
  rw [div_pos hc, abs_mul_coe (inv_pos.mpr hc), mul_assoc, ← EReal.coe_mul, inv_mul_cancel₀ hc.ne', EReal.coe_one, mul_one]

end Cert.RowMath

end
-- ==== Proof.Precondition.lean ====
/- What the precondition says: every output scale is a positive real number. -/
module

public import proofs.«01_k».proof.Pre_ok
public import proofs.«01_k».proof.Proof.RowMath
public import Idealize.ShloMosaic.PureOps.Ideal

@[expose] public section

noncomputable section

namespace Cert.Pre_ok

open Idealize.ShloMosaic

/-- The shape relation the precondition's broadcasts take. -/
instance facts : Facts where
  bcast_S_S30 := by decide

/-- The pattern of infinity. -/
theorem ofBits_inf : Ideal.ofBits .f32 0x7F800000#32 = ⊤ := by
  simp [Ideal.ofBits, Ideal.ieee]

/-- The pattern of zero. -/
theorem ofBits_zero : Ideal.ofBits .f32 0x00000000#32 = 0 := by
  simp [Ideal.ofBits, Ideal.ieee]

/-- Under the precondition every output scale is a positive real number. -/
theorem scales_pos {a0 : FVec Ideal S2x1024x3840 .fp8e4m3} {a1 a2 : FVec Ideal S2x1024x768 .fp8e4m3} {a3 : FVec Ideal S30 .f32}
    {a4 a5 : FVec Ideal S6 .f32} {a6 : FVec Ideal S30 .f32} (hp : fn (F := Ideal) a0 a1 a2 a3 a4 a5 a6 = fun _ => 1#1) (h : S30.Idx) :
    ∃ r : ℝ, 0 < r ∧ a6 h = (r : EReal) := by
  have e : IntOp.andi (Ideal.cmp .ogt (a6 h) (Ideal.ofBits .f32 0x00000000#32)) (Ideal.cmp .olt (a6 h) (Ideal.ofBits .f32 0x7F800000#32)) = 1#1 :=
    congrFun hp h
  rw [ofBits_zero, ofBits_inf] at e
  generalize a6 h = y at e
  have h0 : (0 : EReal) < y := by
    by_contra hn
    simp [Ideal.cmp, hn, IntOp.andi] at e
  have h1 : y < ⊤ := by
    by_contra hn
    simp [Ideal.cmp, hn, IntOp.andi] at e
  induction y using EReal.rec with
  | bot => exact absurd h0 (by simp)
  | top => exact absurd h1 (lt_irrefl _)
  | coe r => exact ⟨r, by exact_mod_cast h0, rfl⟩

end Cert.Pre_ok

end
-- ==== Proof.Kernel.Unit.lean ====
/- The arithmetic of one grid point of the kernel, written once per kind of step instead of once per unrolled
   copy: how a tile of 256 queries is scored against a block of 256 keys, how the rows are folded, how the scores
   become weights, and how the tile's result becomes codes and an absolute maximum. -/
module

public import proofs.«01_k».proof.Proof.Gen.KernelIdeal

@[expose] public section

set_option maxRecDepth 16384

noncomputable section

namespace Cert.KernelIdeal.Unit

open Idealize.ShloMosaic Idealize.SL.Sem
open Cert.KernelIdeal.Gen

variable {F : FTy → Type} [FloatOps F] [Named F]

/-- Fold the 128 rows of a square tile onto 8 rows, pairwise. -/
def fold16 (op : FVec F S8x128 .f32 → FVec F S8x128 .f32 → FVec F S8x128 .f32) (x : FVec F S128x128 .f32) : FVec F S8x128 .f32 :=
  (op (op (op
    (op (extractStridedSlice S8x128 ![0, 0] x slices_S128x128_o0_0_S8x128) (extractStridedSlice S8x128 ![8, 0] x slices_S128x128_o8_0_S8x128))
    (op (extractStridedSlice S8x128 ![16, 0] x slices_S128x128_o16_0_S8x128) (extractStridedSlice S8x128 ![24, 0] x slices_S128x128_o24_0_S8x128))) (op
    (op (extractStridedSlice S8x128 ![32, 0] x slices_S128x128_o32_0_S8x128) (extractStridedSlice S8x128 ![40, 0] x slices_S128x128_o40_0_S8x128))
    (op (extractStridedSlice S8x128 ![48, 0] x slices_S128x128_o48_0_S8x128) (extractStridedSlice S8x128 ![56, 0] x slices_S128x128_o56_0_S8x128)))) (op (op
    (op (extractStridedSlice S8x128 ![64, 0] x slices_S128x128_o64_0_S8x128) (extractStridedSlice S8x128 ![72, 0] x slices_S128x128_o72_0_S8x128))
    (op (extractStridedSlice S8x128 ![80, 0] x slices_S128x128_o80_0_S8x128) (extractStridedSlice S8x128 ![88, 0] x slices_S128x128_o88_0_S8x128))) (op
    (op (extractStridedSlice S8x128 ![96, 0] x slices_S128x128_o96_0_S8x128) (extractStridedSlice S8x128 ![104, 0] x slices_S128x128_o104_0_S8x128))
    (op (extractStridedSlice S8x128 ![112, 0] x slices_S128x128_o112_0_S8x128) (extractStridedSlice S8x128 ![120, 0] x slices_S128x128_o120_0_S8x128)))))

/-- Fold the 256 rows of a full score block onto 8 rows, pairwise. -/
def fold32 (op : FVec F S8x256 .f32 → FVec F S8x256 .f32 → FVec F S8x256 .f32) (x : FVec F S256x256 .f32) : FVec F S8x256 .f32 :=
  (op (op (op (op
    (op (extractStridedSlice S8x256 ![0, 0] x slices_S256x256_o0_0_S8x256) (extractStridedSlice S8x256 ![8, 0] x slices_S256x256_o8_0_S8x256))
    (op (extractStridedSlice S8x256 ![16, 0] x slices_S256x256_o16_0_S8x256) (extractStridedSlice S8x256 ![24, 0] x slices_S256x256_o24_0_S8x256))) (op
    (op (extractStridedSlice S8x256 ![32, 0] x slices_S256x256_o32_0_S8x256) (extractStridedSlice S8x256 ![40, 0] x slices_S256x256_o40_0_S8x256))
    (op (extractStridedSlice S8x256 ![48, 0] x slices_S256x256_o48_0_S8x256) (extractStridedSlice S8x256 ![56, 0] x slices_S256x256_o56_0_S8x256)))) (op (op
    (op (extractStridedSlice S8x256 ![64, 0] x slices_S256x256_o64_0_S8x256) (extractStridedSlice S8x256 ![72, 0] x slices_S256x256_o72_0_S8x256))
    (op (extractStridedSlice S8x256 ![80, 0] x slices_S256x256_o80_0_S8x256) (extractStridedSlice S8x256 ![88, 0] x slices_S256x256_o88_0_S8x256))) (op
    (op (extractStridedSlice S8x256 ![96, 0] x slices_S256x256_o96_0_S8x256) (extractStridedSlice S8x256 ![104, 0] x slices_S256x256_o104_0_S8x256))
    (op (extractStridedSlice S8x256 ![112, 0] x slices_S256x256_o112_0_S8x256) (extractStridedSlice S8x256 ![120, 0] x slices_S256x256_o120_0_S8x256))))) (op (op (op
    (op (extractStridedSlice S8x256 ![128, 0] x slices_S256x256_o128_0_S8x256) (extractStridedSlice S8x256 ![136, 0] x slices_S256x256_o136_0_S8x256))
    (op (extractStridedSlice S8x256 ![144, 0] x slices_S256x256_o144_0_S8x256) (extractStridedSlice S8x256 ![152, 0] x slices_S256x256_o152_0_S8x256))) (op
    (op (extractStridedSlice S8x256 ![160, 0] x slices_S256x256_o160_0_S8x256) (extractStridedSlice S8x256 ![168, 0] x slices_S256x256_o168_0_S8x256))
    (op (extractStridedSlice S8x256 ![176, 0] x slices_S256x256_o176_0_S8x256) (extractStridedSlice S8x256 ![184, 0] x slices_S256x256_o184_0_S8x256)))) (op (op
    (op (extractStridedSlice S8x256 ![192, 0] x slices_S256x256_o192_0_S8x256) (extractStridedSlice S8x256 ![200, 0] x slices_S256x256_o200_0_S8x256))
    (op (extractStridedSlice S8x256 ![208, 0] x slices_S256x256_o208_0_S8x256) (extractStridedSlice S8x256 ![216, 0] x slices_S256x256_o216_0_S8x256))) (op
    (op (extractStridedSlice S8x256 ![224, 0] x slices_S256x256_o224_0_S8x256) (extractStridedSlice S8x256 ![232, 0] x slices_S256x256_o232_0_S8x256))
    (op (extractStridedSlice S8x256 ![240, 0] x slices_S256x256_o240_0_S8x256) (extractStridedSlice S8x256 ![248, 0] x slices_S256x256_o248_0_S8x256))))))

/-- Fold the 128 rows of a result tile onto 8 rows, pairwise. -/
def foldT (op : FVec F S8x256 .f32 → FVec F S8x256 .f32 → FVec F S8x256 .f32) (x : FVec F S128x256 .f32) : FVec F S8x256 .f32 :=
  (op (op (op
    (op (extractStridedSlice S8x256 ![0, 0] x slices_S128x256_o0_0_S8x256) (extractStridedSlice S8x256 ![8, 0] x slices_S128x256_o8_0_S8x256))
    (op (extractStridedSlice S8x256 ![16, 0] x slices_S128x256_o16_0_S8x256) (extractStridedSlice S8x256 ![24, 0] x slices_S128x256_o24_0_S8x256))) (op
    (op (extractStridedSlice S8x256 ![32, 0] x slices_S128x256_o32_0_S8x256) (extractStridedSlice S8x256 ![40, 0] x slices_S128x256_o40_0_S8x256))
    (op (extractStridedSlice S8x256 ![48, 0] x slices_S128x256_o48_0_S8x256) (extractStridedSlice S8x256 ![56, 0] x slices_S128x256_o56_0_S8x256)))) (op (op
    (op (extractStridedSlice S8x256 ![64, 0] x slices_S128x256_o64_0_S8x256) (extractStridedSlice S8x256 ![72, 0] x slices_S128x256_o72_0_S8x256))
    (op (extractStridedSlice S8x256 ![80, 0] x slices_S128x256_o80_0_S8x256) (extractStridedSlice S8x256 ![88, 0] x slices_S128x256_o88_0_S8x256))) (op
    (op (extractStridedSlice S8x256 ![96, 0] x slices_S128x256_o96_0_S8x256) (extractStridedSlice S8x256 ![104, 0] x slices_S128x256_o104_0_S8x256))
    (op (extractStridedSlice S8x256 ![112, 0] x slices_S128x256_o112_0_S8x256) (extractStridedSlice S8x256 ![120, 0] x slices_S128x256_o120_0_S8x256)))))

/-- The factor on the scores of one head. -/
def coef (qs ks : F .f32) : F .f32 :=
  Scalar.mulf (Scalar.mulf qs ks) (Named.named κ "log2e_inv_sqrt_d" 0x3E0293EE#32)

/-- The scores of 256 keys against 256 queries, transposed: keys down, queries across. -/
def score (c : F .f32) (q k : Vec F S1x256x128 .fp8e4m3) : FVec F S256x256 .f32 :=
  mulf (matmul dot_S256x128_S256x128_S256x256_1_1_0_0_n_n none
      (shapeCast S256x128 k shapeCasts_S1x256x128_S256x128 : FVec F S256x128 .fp8e4m3)
      (shapeCast S256x128 q shapeCasts_S1x256x128_S256x128 : FVec F S256x128 .fp8e4m3)
      (constant S256x256 .f32 0x00000000#32))
    (broadcast S256x256 c)

/-- The upper left quarter of a diagonal block, masked. -/
def quarterA (st : FVec F S256x256 .f32) (bias : Vec F S128x128 .f32) : FVec F S128x128 .f32 :=
  addf (extractStridedSlice S128x128 ![0, 0] st slices_S256x256_o0_0_S128x128) bias

/-- The upper right quarter of a diagonal block: every key is at or before every query. -/
def quarterB (st : FVec F S256x256 .f32) : FVec F S128x128 .f32 :=
  extractStridedSlice S128x128 ![0, 128] st slices_S256x256_o0_128_S128x128

/-- The lower right quarter of a diagonal block, masked. -/
def quarterD (st : FVec F S256x256 .f32) (bias : Vec F S128x128 .f32) : FVec F S128x128 .f32 :=
  addf (extractStridedSlice S128x128 ![128, 128] st slices_S256x256_o128_128_S128x128) bias

/-- A quarter as it is put into scratch. -/
def put4 (x : FVec F S128x128 .f32) : FVec F S1x128x128 .f32 := shapeCast S1x128x128 x shapeCasts_S128x128_S1x128x128

/-- A full block as it is put into scratch. -/
def put1 (x : FVec F S256x256 .f32) : FVec F S1x256x256 .f32 := shapeCast S1x256x256 x shapeCasts_S256x256_S1x256x256

/-- Two halves side by side, 8 rows. -/
def beside8 (l r : FVec F S8x128 .f32) : FVec F S8x256 .f32 :=
  concatenate S8x256 1 [⟨S8x128, l⟩, ⟨S8x128, r⟩] concatenates_S8x128_S8x128_S8x256_d1

/-- The diagonal block's row fold. -/
def foldDiag (op : FVec F S8x128 .f32 → FVec F S8x128 .f32 → FVec F S8x128 .f32) (a b d : FVec F S128x128 .f32) :
    FVec F S8x256 .f32 := beside8 (fold16 op a) (op (fold16 op b) (fold16 op d))

/-- The diagonal block's row maximum on 8 rows. -/
def diagMax (st : FVec F S256x256 .f32) (bias : Vec F S128x128 .f32) : FVec F S8x256 .f32 :=
  foldDiag maximumf (quarterA st bias) (quarterB st) (quarterD st bias)

/-- 8 rows of maxima to one. -/
def rowMax (x : FVec F S8x256 .f32) : FVec F S1x256 .f32 :=
  shapeCast S1x256 (multiReduction .maximumf [0] S256 x 0xFF800000#32 reduces_S8x256_S256 (.inl rfl) rfl : FVec F S256 .f32)
    shapeCasts_S256_S1x256

/-- 8 rows of sums to one. -/
def rowSum (x : FVec F S8x256 .f32) : FVec F S1x256 .f32 :=
  shapeCast S1x256 (multiReduction .add [0] S256 x 0x00000000#32 reduces_S8x256_S256 (.inl rfl) rfl : FVec F S256 .f32)
    shapeCasts_S256_S1x256

/-- The left half of the row of maxima. -/
def leftHalf (mx : FVec F S1x256 .f32) : FVec F S1x128 .f32 :=
  extractStridedSlice S1x128 ![0, 0] mx slices_S1x256_o0_0_S1x128

/-- The right half of the row of maxima. -/
def rightHalf (mx : FVec F S1x256 .f32) : FVec F S1x128 .f32 :=
  extractStridedSlice S1x128 ![0, 128] mx slices_S1x256_o0_128_S1x128

/-- The weights of a quarter read back from scratch. -/
def exp4 (s : Vec F S1x128x128 .f32) (mx : FVec F S1x128 .f32) : FVec F S128x128 .f32 :=
  exp2 (subf (shapeCast S128x128 s shapeCasts_S1x128x128_S128x128 : FVec F S128x128 .f32)
    (broadcastTo S128x128 mx broadcasts_S1x128_S128x128))

/-- The weights of a full block read back from scratch. -/
def exp1 (s : Vec F S1x256x256 .f32) (mx : FVec F S1x256 .f32) : FVec F S256x256 .f32 :=
  exp2 (subf (shapeCast S256x256 s shapeCasts_S1x256x256_S256x256 : FVec F S256x256 .f32)
    (broadcastTo S256x256 mx broadcasts_S1x256_S256x256))

/-- A diagonal block's weights as the multiplication takes them: the quarter above the diagonal is zero. -/
def joinDiag (a b d : FVec F S128x128 .f32) : FVec F S256x256 .bf16 :=
  concatenate S256x256 0 [
    ⟨S128x256, (concatenate S128x256 1 [⟨S128x128, (truncf .bf16 a bitsLt_bf16_f32 : FVec F S128x128 .bf16)⟩, ⟨S128x128, (truncf .bf16 b bitsLt_bf16_f32 : FVec F S128x128 .bf16)⟩] concatenates_S128x128_S128x128_S128x256_d1 : FVec F S128x256 .bf16)⟩,
    ⟨S128x256, (concatenate S128x256 1 [⟨S128x128, (broadcast S128x128 (Scalar.ofBits .bf16 0x0000#16) : FVec F S128x128 .bf16)⟩, ⟨S128x128, (truncf .bf16 d bitsLt_bf16_f32 : FVec F S128x128 .bf16)⟩] concatenates_S128x128_S128x128_S128x256_d1 : FVec F S128x256 .bf16)⟩]
    concatenates_S128x256_S128x256_S256x256_d0

/-- A block of values times a block of weights. -/
def weigh (v : Vec F S128x256 .bf16) (p : FVec F S256x256 .bf16) : FVec F S128x256 .f32 :=
  matmul dot_S128x256_S256x256_S128x256_1_0_0_1_n_n none v p (constant S128x256 .f32 0x00000000#32)

/-- The diagonal block's contribution. -/
def weighDiag (v : Vec F S128x256 .bf16) (a b d : FVec F S128x128 .f32) : FVec F S128x256 .f32 := weigh v (joinDiag a b d)

/-- A full block's contribution. -/
def weighFull (v : Vec F S128x256 .bf16) (e : FVec F S256x256 .f32) : FVec F S128x256 .f32 :=
  weigh v (truncf .bf16 e bitsLt_bf16_f32)

/-- The tile's result: the weighed values over the weights' sum, times the head's gain. -/
def finish (gain : F .f32) (acc : FVec F S128x256 .f32) (l8 : FVec F S8x256 .f32) : FVec F S128x256 .f32 :=
  mulf acc (broadcastTo S128x256 (divf (broadcast S1x256 gain) (rowSum l8)) broadcasts_S1x256_S128x256)

/-- Clamp and round to the storage format. -/
def codesOf (x : FVec F S128x128 .f32) : FVec F S1x128x128 .fp8e4m3 :=
  shapeCast S1x128x128 (truncf .fp8e4m3 (minimumf (broadcast S128x128 (Scalar.ofBits .f32 0x43E00000#32))
    (maximumf (broadcast S128x128 (Scalar.ofBits .f32 0xC3E00000#32))
      (transpose S128x128 [1, 0] x transposes_S128x128_p1_0_S128x128))) bitsLt_fp8e4m3_f32 : FVec F S128x128 .fp8e4m3)
    shapeCasts_S128x128_S1x128x128

/-- The codes of the tile's first 128 queries. -/
def codes0 (t : FVec F S128x256 .f32) : FVec F S1x128x128 .fp8e4m3 :=
  codesOf (extractStridedSlice S128x128 ![0, 0] t slices_S128x256_o0_0_S128x128)

/-- The codes of the tile's last 128 queries. -/
def codes1 (t : FVec F S128x256 .f32) : FVec F S1x128x128 .fp8e4m3 :=
  codesOf (extractStridedSlice S128x128 ![0, 128] t slices_S128x256_o0_128_S128x128)

/-- The two halves of 8 rows of maxima, joined. -/
def halves (x : FVec F S8x256 .f32) : FVec F S8x128 .f32 :=
  maximumf (extractStridedSlice S8x128 ![0, 0] x slices_S8x256_o0_0_S8x128)
    (extractStridedSlice S8x128 ![0, 128] x slices_S8x256_o0_128_S8x128)

/-- The running absolute maximum after a tile. -/
def absStep (tmax : FVec F S8x128 .f32) (t : FVec F S128x256 .f32) : FVec F S8x128 .f32 :=
  maximumf tmax (halves (foldT maximumf (absf t)))

/-- The running absolute maximum before the first tile. -/
def absZero : FVec F S8x128 .f32 := broadcast S8x128 (Scalar.ofBits .f32 0x00000000#32)

/-- The lanes of the array of absolute maxima. -/
def lane : IVec S1x30 32 := iota .tc S1x30 32 [1] iota_S1x30_d1_w32

/-- One head's absolute maximum joined into its lane. -/
def amaxStep (amax : FVec F S1x30 .f32) (h : BitVec 32) (tmax : FVec F S8x128 .f32) (os : F .f32) : FVec F S1x30 .f32 :=
  select (cmpi .eq lane (broadcast S1x30 h))
    (maximumf amax (broadcastTo S1x30 (mulf
      (shapeCast S1x1 (multiReduction .maximumf [1] S1
        (shapeCast S1x128 (multiReduction .maximumf [0] S128 tmax 0xFF800000#32 reduces_S8x128_S128 (.inl rfl) rfl : FVec F S128 .f32)
          shapeCasts_S128_S1x128 : FVec F S1x128 .f32) 0xFF800000#32 reduces_S1x128_S1 (.inl rfl) rfl : FVec F S1 .f32) shapeCasts_S1_S1x1 : FVec F S1x1 .f32)
      (broadcast S1x1 os)) broadcasts_S1x1_S1x30)) amax

/-- A block of values as it is put into scratch, transposed. -/
def putV (v : Vec F S1x128x128 .fp8e4m3) : FVec F S128x128 .bf16 :=
  shapeCast S128x128 (transpose S128x128 [1, 0] (extf .bf16 (shapeCast S128x128 v shapeCasts_S1x128x128_S128x128 : FVec F S128x128 .fp8e4m3)
    bitsLt_fp8e4m3_bf16 : FVec F S128x128 .bf16) transposes_S128x128_p1_0_S128x128 : FVec F S128x128 .bf16) shapeCasts_S128x128_S128x128

/-- The mask of a diagonal quarter: zero where the key is at or before the query, minus infinity after. -/
def mask : FVec F S128x128 .f32 :=
  shapeCast S128x128 (select (cmpi .sle (iota .tc S128x128 32 [0] iota_S128x128_d0_w32) (iota .tc S128x128 32 [1] iota_S128x128_d1_w32))
    (broadcast S128x128 (Scalar.ofBits .f32 0x00000000#32)) (broadcast S128x128 (Scalar.ofBits .f32 0xFF800000#32)) : FVec F S128x128 .f32)
    shapeCasts_S128x128_S128x128

/-! ### A whole tile: its maxima, then its result from the scores and the values read back from scratch -/

/-- The row of maxima of the first tile. -/
def max0 (st0 : FVec F S256x256 .f32) (bias : Vec F S128x128 .f32) : FVec F S1x256 .f32 := rowMax (diagMax st0 bias)

/-- The row of maxima of the second tile. -/
def max1 (st0 st1 : FVec F S256x256 .f32) (bias : Vec F S128x128 .f32) : FVec F S1x256 .f32 :=
  rowMax (maximumf (fold32 maximumf st0) (diagMax st1 bias))

/-- The row of maxima of the third tile. -/
def max2 (st0 st1 st2 : FVec F S256x256 .f32) (bias : Vec F S128x128 .f32) : FVec F S1x256 .f32 :=
  rowMax (maximumf (maximumf (fold32 maximumf st0) (fold32 maximumf st1)) (diagMax st2 bias))

/-- The row of maxima of the fourth tile. -/
def max3 (st0 st1 st2 st3 : FVec F S256x256 .f32) (bias : Vec F S128x128 .f32) : FVec F S1x256 .f32 :=
  rowMax (maximumf (maximumf (maximumf (fold32 maximumf st0) (fold32 maximumf st1)) (fold32 maximumf st2)) (diagMax st3 bias))

/-- The diagonal block's weighed values. -/
def accD (mx : FVec F S1x256 .f32) (a b d : Vec F S1x128x128 .f32) (v : Vec F S128x256 .bf16) : FVec F S128x256 .f32 :=
  weighDiag v (exp4 a (leftHalf mx)) (exp4 b (rightHalf mx)) (exp4 d (rightHalf mx))

/-- The diagonal block's sum of weights on 8 rows. -/
def sumD (mx : FVec F S1x256 .f32) (a b d : Vec F S1x128x128 .f32) : FVec F S8x256 .f32 :=
  foldDiag addf (exp4 a (leftHalf mx)) (exp4 b (rightHalf mx)) (exp4 d (rightHalf mx))

/-- The first tile's result. -/
def tile0 (gain : F .f32) (mx : FVec F S1x256 .f32) (a b d : Vec F S1x128x128 .f32) (v0 : Vec F S128x256 .bf16) :
    FVec F S128x256 .f32 :=
  finish gain (accD mx a b d v0) (sumD mx a b d)

/-- The second tile's result. -/
def tile1 (gain : F .f32) (mx : FVec F S1x256 .f32) (s0 : Vec F S1x256x256 .f32) (a b d : Vec F S1x128x128 .f32)
    (v0 v1 : Vec F S128x256 .bf16) : FVec F S128x256 .f32 :=
  finish gain (addf (weighFull v0 (exp1 s0 mx)) (accD mx a b d v1)) (addf (fold32 addf (exp1 s0 mx)) (sumD mx a b d))

/-- The third tile's result. -/
def tile2 (gain : F .f32) (mx : FVec F S1x256 .f32) (s0 s1 : Vec F S1x256x256 .f32) (a b d : Vec F S1x128x128 .f32)
    (v0 v1 v2 : Vec F S128x256 .bf16) : FVec F S128x256 .f32 :=
  finish gain (addf (addf (weighFull v0 (exp1 s0 mx)) (weighFull v1 (exp1 s1 mx))) (accD mx a b d v2))
    (addf (addf (fold32 addf (exp1 s0 mx)) (fold32 addf (exp1 s1 mx))) (sumD mx a b d))

/-- The fourth tile's result. -/
def tile3 (gain : F .f32) (mx : FVec F S1x256 .f32) (s0 s1 s2 : Vec F S1x256x256 .f32) (a b d : Vec F S1x128x128 .f32)
    (v0 v1 v2 v3 : Vec F S128x256 .bf16) : FVec F S128x256 .f32 :=
  finish gain (addf (addf (addf (weighFull v0 (exp1 s0 mx)) (weighFull v1 (exp1 s1 mx))) (weighFull v2 (exp1 s2 mx))) (accD mx a b d v3))
    (addf (addf (addf (fold32 addf (exp1 s0 mx)) (fold32 addf (exp1 s1 mx))) (fold32 addf (exp1 s2 mx))) (sumD mx a b d))

end Cert.KernelIdeal.Unit
-- ==== Proof.Kernel.Point.lean ====
/- One grid point of the kernel, written with each step once: what it loads, what it puts into scratch and reads back,
   the twenty tiles' results, the pieces of codes it stores and the absolute maxima it joins. -/
module

public import proofs.«01_k».proof.Proof.Kernel.Unit

@[expose] public section

set_option maxRecDepth 16384

noncomputable section

namespace Cert.KernelIdeal.Point

open Idealize.ShloMosaic Idealize.SL.Sem
open Cert.KernelIdeal.Gen Cert.KernelIdeal.Unit

/-- What a grid point loads. -/
structure Loads (F : FTy → Type) where
  /-- The queries of a head, 256 at a time. -/
  q : Fin 5 → Fin 4 → Vec F S1x256x128 .fp8e4m3
  /-- The keys, 256 at a time. -/
  k : Fin 4 → Vec F S1x256x128 .fp8e4m3
  /-- The values, 128 at a time. -/
  v : Fin 8 → Vec F S1x128x128 .fp8e4m3
  /-- A head's query scale. -/
  qs : Fin 5 → Elt F .f32
  /-- The key scale. -/
  ks : Elt F .f32
  /-- The value scale. -/
  vs : Elt F .f32
  /-- A head's output scale. -/
  os : Fin 5 → Elt F .f32
  /-- The diagonal mask. -/
  bias : Vec F S128x128 .f32
  /-- A head's number. -/
  head : Fin 5 → BitVec 32
  /-- The absolute maxima so far. -/
  amax : Vec F S1x30 .f32

variable {F : FTy → Type} [FloatOps F] [Named F]

section
variable (L : Loads F)

/-- A head's factor on the scores. -/
def c (g : Fin 5) : F .f32 := coef (L.qs g) L.ks

/-- A head's factor on the result. -/
def gain (g : Fin 5) : F .f32 := Scalar.divf L.vs (L.os g)

/-- The scores of tile `qb` of a head against key block `kb`. -/
def st (g : Fin 5) (qb kb : Fin 4) : FVec F S256x256 .f32 := score (c L g) (L.q g qb) (L.k kb)

/-- The values put into scratch, last first. -/
def vPieces : List (View.Piece (Elt F) S128x1024 .bf16) := [
  ⟨Rect.unit ![0, 896] S128x128.size inb_S128x1024_S128x128_0_896, putV (L.v 7)⟩,
  ⟨Rect.unit ![0, 768] S128x128.size inb_S128x1024_S128x128_0_768, putV (L.v 6)⟩,
  ⟨Rect.unit ![0, 640] S128x128.size inb_S128x1024_S128x128_0_640, putV (L.v 5)⟩,
  ⟨Rect.unit ![0, 512] S128x128.size inb_S128x1024_S128x128_0_512, putV (L.v 4)⟩,
  ⟨Rect.unit ![0, 384] S128x128.size inb_S128x1024_S128x128_0_384, putV (L.v 3)⟩,
  ⟨Rect.unit ![0, 256] S128x128.size inb_S128x1024_S128x128_0_256, putV (L.v 2)⟩,
  ⟨Rect.unit ![0, 128] S128x128.size inb_S128x1024_S128x128_0_128, putV (L.v 1)⟩,
  ⟨Rect.unit ![0, 0] S128x128.size inb_S128x1024_S128x128_0_0, putV (L.v 0)⟩]

variable (V1 : View sig .tc .vmem S128x1024 .bf16) (V2 : View sig .tc .vmem S2x1024x256 .f32)

/-- Block 0 of the values, read back. -/
def vt0 : Vec F S128x256 .bf16 := V1.readCov (vPieces L) (Rect.unit (s := S128x1024) ![0, 0] S128x256.size inb_S128x1024_S128x256_0_0).toLoadRect

/-- Block 1 of the values, read back. -/
def vt1 : Vec F S128x256 .bf16 := V1.readCov (vPieces L) (Rect.unit (s := S128x1024) ![0, 256] S128x256.size inb_S128x1024_S128x256_0_256).toLoadRect

/-- Block 2 of the values, read back. -/
def vt2 : Vec F S128x256 .bf16 := V1.readCov (vPieces L) (Rect.unit (s := S128x1024) ![0, 512] S128x256.size inb_S128x1024_S128x256_0_512).toLoadRect

/-- Block 3 of the values, read back. -/
def vt3 : Vec F S128x256 .bf16 := V1.readCov (vPieces L) (Rect.unit (s := S128x1024) ![0, 768] S128x256.size inb_S128x1024_S128x256_0_768).toLoadRect

/-- The score scratch after tile 0 of a head has put its scores there, last first. -/
def scores0 (g : Fin 5) (prev : List (View.Piece (Elt F) S2x1024x256 .f32)) : List (View.Piece (Elt F) S2x1024x256 .f32) :=
  ⟨Rect.unit ![0, 128, 128] S1x128x128.size inb_S2x1024x256_S1x128x128_0_128_128, put4 (quarterD (st L g 0 0) L.bias)⟩ ::
  ⟨Rect.unit ![0, 0, 128] S1x128x128.size inb_S2x1024x256_S1x128x128_0_0_128, put4 (quarterB (st L g 0 0))⟩ ::
  ⟨Rect.unit ![0, 0, 0] S1x128x128.size inb_S2x1024x256_S1x128x128_0_0_0, put4 (quarterA (st L g 0 0) L.bias)⟩ ::
  prev

/-- The score scratch after tile 1 of a head has put its scores there, last first. -/
def scores1 (g : Fin 5) (prev : List (View.Piece (Elt F) S2x1024x256 .f32)) : List (View.Piece (Elt F) S2x1024x256 .f32) :=
  ⟨Rect.unit ![1, 384, 128] S1x128x128.size inb_S2x1024x256_S1x128x128_1_384_128, put4 (quarterD (st L g 1 1) L.bias)⟩ ::
  ⟨Rect.unit ![1, 256, 128] S1x128x128.size inb_S2x1024x256_S1x128x128_1_256_128, put4 (quarterB (st L g 1 1))⟩ ::
  ⟨Rect.unit ![1, 256, 0] S1x128x128.size inb_S2x1024x256_S1x128x128_1_256_0, put4 (quarterA (st L g 1 1) L.bias)⟩ ::
  ⟨Rect.unit ![1, 0, 0] S1x256x256.size inb_S2x1024x256_S1x256x256_1_0_0, put1 (st L g 1 0)⟩ ::
  scores0 L g prev

/-- The score scratch after tile 2 of a head has put its scores there, last first. -/
def scores2 (g : Fin 5) (prev : List (View.Piece (Elt F) S2x1024x256 .f32)) : List (View.Piece (Elt F) S2x1024x256 .f32) :=
  ⟨Rect.unit ![0, 640, 128] S1x128x128.size inb_S2x1024x256_S1x128x128_0_640_128, put4 (quarterD (st L g 2 2) L.bias)⟩ ::
  ⟨Rect.unit ![0, 512, 128] S1x128x128.size inb_S2x1024x256_S1x128x128_0_512_128, put4 (quarterB (st L g 2 2))⟩ ::
  ⟨Rect.unit ![0, 512, 0] S1x128x128.size inb_S2x1024x256_S1x128x128_0_512_0, put4 (quarterA (st L g 2 2) L.bias)⟩ ::
  ⟨Rect.unit ![0, 256, 0] S1x256x256.size inb_S2x1024x256_S1x256x256_0_256_0, put1 (st L g 2 1)⟩ ::
  ⟨Rect.unit ![0, 0, 0] S1x256x256.size inb_S2x1024x256_S1x256x256_0_0_0, put1 (st L g 2 0)⟩ ::
  scores1 L g prev

/-- The score scratch after tile 3 of a head has put its scores there, last first. -/
def scores3 (g : Fin 5) (prev : List (View.Piece (Elt F) S2x1024x256 .f32)) : List (View.Piece (Elt F) S2x1024x256 .f32) :=
  ⟨Rect.unit ![1, 896, 128] S1x128x128.size inb_S2x1024x256_S1x128x128_1_896_128, put4 (quarterD (st L g 3 3) L.bias)⟩ ::
  ⟨Rect.unit ![1, 768, 128] S1x128x128.size inb_S2x1024x256_S1x128x128_1_768_128, put4 (quarterB (st L g 3 3))⟩ ::
  ⟨Rect.unit ![1, 768, 0] S1x128x128.size inb_S2x1024x256_S1x128x128_1_768_0, put4 (quarterA (st L g 3 3) L.bias)⟩ ::
  ⟨Rect.unit ![1, 512, 0] S1x256x256.size inb_S2x1024x256_S1x256x256_1_512_0, put1 (st L g 3 2)⟩ ::
  ⟨Rect.unit ![1, 256, 0] S1x256x256.size inb_S2x1024x256_S1x256x256_1_256_0, put1 (st L g 3 1)⟩ ::
  ⟨Rect.unit ![1, 0, 0] S1x256x256.size inb_S2x1024x256_S1x256x256_1_0_0, put1 (st L g 3 0)⟩ ::
  scores2 L g prev

/-- The result of tile 0 of a head. -/
def t0 (g : Fin 5) (prev : List (View.Piece (Elt F) S2x1024x256 .f32)) : FVec F S128x256 .f32 :=
  tile0 (gain L g) (max0 (st L g 0 0) L.bias)
    (V2.readCov (scores0 L g prev) (Rect.unit (s := S2x1024x256) ![0, 0, 0] S1x128x128.size inb_S2x1024x256_S1x128x128_0_0_0).toLoadRect)
    (V2.readCov (scores0 L g prev) (Rect.unit (s := S2x1024x256) ![0, 0, 128] S1x128x128.size inb_S2x1024x256_S1x128x128_0_0_128).toLoadRect)
    (V2.readCov (scores0 L g prev) (Rect.unit (s := S2x1024x256) ![0, 128, 128] S1x128x128.size inb_S2x1024x256_S1x128x128_0_128_128).toLoadRect)
    (vt0 L V1)

/-- The result of tile 1 of a head. -/
def t1 (g : Fin 5) (prev : List (View.Piece (Elt F) S2x1024x256 .f32)) : FVec F S128x256 .f32 :=
  tile1 (gain L g) (max1 (st L g 1 0) (st L g 1 1) L.bias)
    (V2.readCov (scores1 L g prev) (Rect.unit (s := S2x1024x256) ![1, 0, 0] S1x256x256.size inb_S2x1024x256_S1x256x256_1_0_0).toLoadRect)
    (V2.readCov (scores1 L g prev) (Rect.unit (s := S2x1024x256) ![1, 256, 0] S1x128x128.size inb_S2x1024x256_S1x128x128_1_256_0).toLoadRect)
    (V2.readCov (scores1 L g prev) (Rect.unit (s := S2x1024x256) ![1, 256, 128] S1x128x128.size inb_S2x1024x256_S1x128x128_1_256_128).toLoadRect)
    (V2.readCov (scores1 L g prev) (Rect.unit (s := S2x1024x256) ![1, 384, 128] S1x128x128.size inb_S2x1024x256_S1x128x128_1_384_128).toLoadRect)
    (vt0 L V1) (vt1 L V1)

/-- The result of tile 2 of a head. -/
def t2 (g : Fin 5) (prev : List (View.Piece (Elt F) S2x1024x256 .f32)) : FVec F S128x256 .f32 :=
  tile2 (gain L g) (max2 (st L g 2 0) (st L g 2 1) (st L g 2 2) L.bias)
    (V2.readCov (scores2 L g prev) (Rect.unit (s := S2x1024x256) ![0, 0, 0] S1x256x256.size inb_S2x1024x256_S1x256x256_0_0_0).toLoadRect)
    (V2.readCov (scores2 L g prev) (Rect.unit (s := S2x1024x256) ![0, 256, 0] S1x256x256.size inb_S2x1024x256_S1x256x256_0_256_0).toLoadRect)
    (V2.readCov (scores2 L g prev) (Rect.unit (s := S2x1024x256) ![0, 512, 0] S1x128x128.size inb_S2x1024x256_S1x128x128_0_512_0).toLoadRect)
    (V2.readCov (scores2 L g prev) (Rect.unit (s := S2x1024x256) ![0, 512, 128] S1x128x128.size inb_S2x1024x256_S1x128x128_0_512_128).toLoadRect)
    (V2.readCov (scores2 L g prev) (Rect.unit (s := S2x1024x256) ![0, 640, 128] S1x128x128.size inb_S2x1024x256_S1x128x128_0_640_128).toLoadRect)
    (vt0 L V1) (vt1 L V1) (vt2 L V1)

/-- The result of tile 3 of a head. -/
def t3 (g : Fin 5) (prev : List (View.Piece (Elt F) S2x1024x256 .f32)) : FVec F S128x256 .f32 :=
  tile3 (gain L g) (max3 (st L g 3 0) (st L g 3 1) (st L g 3 2) (st L g 3 3) L.bias)
    (V2.readCov (scores3 L g prev) (Rect.unit (s := S2x1024x256) ![1, 0, 0] S1x256x256.size inb_S2x1024x256_S1x256x256_1_0_0).toLoadRect)
    (V2.readCov (scores3 L g prev) (Rect.unit (s := S2x1024x256) ![1, 256, 0] S1x256x256.size inb_S2x1024x256_S1x256x256_1_256_0).toLoadRect)
    (V2.readCov (scores3 L g prev) (Rect.unit (s := S2x1024x256) ![1, 512, 0] S1x256x256.size inb_S2x1024x256_S1x256x256_1_512_0).toLoadRect)
    (V2.readCov (scores3 L g prev) (Rect.unit (s := S2x1024x256) ![1, 768, 0] S1x128x128.size inb_S2x1024x256_S1x128x128_1_768_0).toLoadRect)
    (V2.readCov (scores3 L g prev) (Rect.unit (s := S2x1024x256) ![1, 768, 128] S1x128x128.size inb_S2x1024x256_S1x128x128_1_768_128).toLoadRect)
    (V2.readCov (scores3 L g prev) (Rect.unit (s := S2x1024x256) ![1, 896, 128] S1x128x128.size inb_S2x1024x256_S1x128x128_1_896_128).toLoadRect)
    (vt0 L V1) (vt1 L V1) (vt2 L V1) (vt3 L V1)

/-- The score scratch before head `n` of the point. -/
def before : ℕ → List (View.Piece (Elt F) S2x1024x256 .f32)
  | 0 => []
  | 1 => scores3 L 0 []
  | 2 => scores3 L 1 (scores3 L 0 [])
  | 3 => scores3 L 2 (scores3 L 1 (scores3 L 0 []))
  | _ => scores3 L 3 (scores3 L 2 (scores3 L 1 (scores3 L 0 [])))

/-- The result of tile `qb` of head `g` of the point. -/
def t (g : Fin 5) : Fin 4 → FVec F S128x256 .f32
  | 0 => t0 L V1 V2 g (before L g.val)
  | 1 => t1 L V1 V2 g (before L g.val)
  | 2 => t2 L V1 V2 g (before L g.val)
  | 3 => t3 L V1 V2 g (before L g.val)

/-- The pieces of codes the point stores, last first. -/
def codes : List (View.Piece (Elt F) S1x1024x640 .fp8e4m3) := [
  ⟨Rect.unit ![0, 896, 512] S1x128x128.size inb_S1x1024x640_S1x128x128_0_896_512, codes1 (t L V1 V2 4 3)⟩,
  ⟨Rect.unit ![0, 768, 512] S1x128x128.size inb_S1x1024x640_S1x128x128_0_768_512, codes0 (t L V1 V2 4 3)⟩,
  ⟨Rect.unit ![0, 640, 512] S1x128x128.size inb_S1x1024x640_S1x128x128_0_640_512, codes1 (t L V1 V2 4 2)⟩,
  ⟨Rect.unit ![0, 512, 512] S1x128x128.size inb_S1x1024x640_S1x128x128_0_512_512, codes0 (t L V1 V2 4 2)⟩,
  ⟨Rect.unit ![0, 384, 512] S1x128x128.size inb_S1x1024x640_S1x128x128_0_384_512, codes1 (t L V1 V2 4 1)⟩,
  ⟨Rect.unit ![0, 256, 512] S1x128x128.size inb_S1x1024x640_S1x128x128_0_256_512, codes0 (t L V1 V2 4 1)⟩,
  ⟨Rect.unit ![0, 128, 512] S1x128x128.size inb_S1x1024x640_S1x128x128_0_128_512, codes1 (t L V1 V2 4 0)⟩,
  ⟨Rect.unit ![0, 0, 512] S1x128x128.size inb_S1x1024x640_S1x128x128_0_0_512, codes0 (t L V1 V2 4 0)⟩,
  ⟨Rect.unit ![0, 896, 384] S1x128x128.size inb_S1x1024x640_S1x128x128_0_896_384, codes1 (t L V1 V2 3 3)⟩,
  ⟨Rect.unit ![0, 768, 384] S1x128x128.size inb_S1x1024x640_S1x128x128_0_768_384, codes0 (t L V1 V2 3 3)⟩,
  ⟨Rect.unit ![0, 640, 384] S1x128x128.size inb_S1x1024x640_S1x128x128_0_640_384, codes1 (t L V1 V2 3 2)⟩,
  ⟨Rect.unit ![0, 512, 384] S1x128x128.size inb_S1x1024x640_S1x128x128_0_512_384, codes0 (t L V1 V2 3 2)⟩,
  ⟨Rect.unit ![0, 384, 384] S1x128x128.size inb_S1x1024x640_S1x128x128_0_384_384, codes1 (t L V1 V2 3 1)⟩,
  ⟨Rect.unit ![0, 256, 384] S1x128x128.size inb_S1x1024x640_S1x128x128_0_256_384, codes0 (t L V1 V2 3 1)⟩,
  ⟨Rect.unit ![0, 128, 384] S1x128x128.size inb_S1x1024x640_S1x128x128_0_128_384, codes1 (t L V1 V2 3 0)⟩,
  ⟨Rect.unit ![0, 0, 384] S1x128x128.size inb_S1x1024x640_S1x128x128_0_0_384, codes0 (t L V1 V2 3 0)⟩,
  ⟨Rect.unit ![0, 896, 256] S1x128x128.size inb_S1x1024x640_S1x128x128_0_896_256, codes1 (t L V1 V2 2 3)⟩,
  ⟨Rect.unit ![0, 768, 256] S1x128x128.size inb_S1x1024x640_S1x128x128_0_768_256, codes0 (t L V1 V2 2 3)⟩,
  ⟨Rect.unit ![0, 640, 256] S1x128x128.size inb_S1x1024x640_S1x128x128_0_640_256, codes1 (t L V1 V2 2 2)⟩,
  ⟨Rect.unit ![0, 512, 256] S1x128x128.size inb_S1x1024x640_S1x128x128_0_512_256, codes0 (t L V1 V2 2 2)⟩,
  ⟨Rect.unit ![0, 384, 256] S1x128x128.size inb_S1x1024x640_S1x128x128_0_384_256, codes1 (t L V1 V2 2 1)⟩,
  ⟨Rect.unit ![0, 256, 256] S1x128x128.size inb_S1x1024x640_S1x128x128_0_256_256, codes0 (t L V1 V2 2 1)⟩,
  ⟨Rect.unit ![0, 128, 256] S1x128x128.size inb_S1x1024x640_S1x128x128_0_128_256, codes1 (t L V1 V2 2 0)⟩,
  ⟨Rect.unit ![0, 0, 256] S1x128x128.size inb_S1x1024x640_S1x128x128_0_0_256, codes0 (t L V1 V2 2 0)⟩,
  ⟨Rect.unit ![0, 896, 128] S1x128x128.size inb_S1x1024x640_S1x128x128_0_896_128, codes1 (t L V1 V2 1 3)⟩,
  ⟨Rect.unit ![0, 768, 128] S1x128x128.size inb_S1x1024x640_S1x128x128_0_768_128, codes0 (t L V1 V2 1 3)⟩,
  ⟨Rect.unit ![0, 640, 128] S1x128x128.size inb_S1x1024x640_S1x128x128_0_640_128, codes1 (t L V1 V2 1 2)⟩,
  ⟨Rect.unit ![0, 512, 128] S1x128x128.size inb_S1x1024x640_S1x128x128_0_512_128, codes0 (t L V1 V2 1 2)⟩,
  ⟨Rect.unit ![0, 384, 128] S1x128x128.size inb_S1x1024x640_S1x128x128_0_384_128, codes1 (t L V1 V2 1 1)⟩,
  ⟨Rect.unit ![0, 256, 128] S1x128x128.size inb_S1x1024x640_S1x128x128_0_256_128, codes0 (t L V1 V2 1 1)⟩,
  ⟨Rect.unit ![0, 128, 128] S1x128x128.size inb_S1x1024x640_S1x128x128_0_128_128, codes1 (t L V1 V2 1 0)⟩,
  ⟨Rect.unit ![0, 0, 128] S1x128x128.size inb_S1x1024x640_S1x128x128_0_0_128, codes0 (t L V1 V2 1 0)⟩,
  ⟨Rect.unit ![0, 896, 0] S1x128x128.size inb_S1x1024x640_S1x128x128_0_896_0, codes1 (t L V1 V2 0 3)⟩,
  ⟨Rect.unit ![0, 768, 0] S1x128x128.size inb_S1x1024x640_S1x128x128_0_768_0, codes0 (t L V1 V2 0 3)⟩,
  ⟨Rect.unit ![0, 640, 0] S1x128x128.size inb_S1x1024x640_S1x128x128_0_640_0, codes1 (t L V1 V2 0 2)⟩,
  ⟨Rect.unit ![0, 512, 0] S1x128x128.size inb_S1x1024x640_S1x128x128_0_512_0, codes0 (t L V1 V2 0 2)⟩,
  ⟨Rect.unit ![0, 384, 0] S1x128x128.size inb_S1x1024x640_S1x128x128_0_384_0, codes1 (t L V1 V2 0 1)⟩,
  ⟨Rect.unit ![0, 256, 0] S1x128x128.size inb_S1x1024x640_S1x128x128_0_256_0, codes0 (t L V1 V2 0 1)⟩,
  ⟨Rect.unit ![0, 128, 0] S1x128x128.size inb_S1x1024x640_S1x128x128_0_128_0, codes1 (t L V1 V2 0 0)⟩,
  ⟨Rect.unit ![0, 0, 0] S1x128x128.size inb_S1x1024x640_S1x128x128_0_0_0, codes0 (t L V1 V2 0 0)⟩]

/-- A head's absolute maximum on 8 rows. -/
def tmax (g : Fin 5) : FVec F S8x128 .f32 :=
  absStep (absStep (absStep (absStep absZero (t L V1 V2 g 0)) (t L V1 V2 g 1)) (t L V1 V2 g 2)) (t L V1 V2 g 3)

/-- A head's absolute maximum joined into its lane. -/
def join (g : Fin 5) (a : FVec F S1x30 .f32) : FVec F S1x30 .f32 := amaxStep a (L.head g) (tmax L V1 V2 g) (L.os g)

/-- The absolute maxima after the point. -/
def amaxOut : FVec F S1x30 .f32 :=
  join L V1 V2 4 (join L V1 V2 3 (join L V1 V2 2 (join L V1 V2 1 (join L V1 V2 0
    (shapeCast S1x30 L.amax shapeCasts_S1x30_S1x30)))))

end

end Cert.KernelIdeal.Point
-- ==== Proof.Kernel.Loads.lean ====
/- What a grid point loads, from the contents of its blocks. -/
module

public import proofs.«01_k».proof.Proof.Gen.KernelIdeal.Frame
public import proofs.«01_k».proof.Proof.Kernel.Point

@[expose] public section

set_option maxRecDepth 16384

noncomputable section

namespace Cert.KernelIdeal.Point

open Idealize.ShloMosaic Idealize.ShloMosaic.TcCoe Idealize.ShloMosaic.Tactic Idealize.SL.Sem
open Cert.KernelIdeal.Gen Cert.KernelIdeal.Unit

variable {F : FTy → Type} [FloatOps F] [Named F]

/-- A tile of queries lies inside its block. -/
theorem q_inb (g : Fin 5) (qb : Fin 4) : ∀ a, (![0, 256 * qb.val, 128 * g.val] : Fin 3 → ℕ) a + S1x256x128.size a ≤ S1x1024x640.size a := by
  revert g qb; decide
/-- A block of keys lies inside its array. -/
theorem k_inb (kb : Fin 4) : ∀ a, (![0, 256 * kb.val, 0] : Fin 3 → ℕ) a + S1x256x128.size a ≤ S1x1024x128.size a := by
  revert kb; decide
/-- A block of values lies inside its array. -/
theorem v_inb (n : Fin 8) : ∀ a, (![0, 128 * n.val, 0] : Fin 3 → ℕ) a + S1x128x128.size a ≤ S1x1024x128.size a := by
  revert n; decide

/-- What a grid point loads, from the contents of its blocks. -/
def loads (i : grid0.Coords) (arg2 : Memref sig .tc .smem S30 .f32) (harg2 : arg2.IsWhole) (arg3 : Memref sig .tc .smem S6 .f32) (harg3 : arg3.IsWhole) (arg4 : Memref sig .tc .smem S6 .f32) (harg4 : arg4.IsWhole) (arg5 : Memref sig .tc .smem S30 .f32) (harg5 : arg5.IsWhole) (arg6 : Memref sig .tc .vmem S1x1024x640 .fp8e4m3) (harg6 : arg6.IsWhole) (arg7 : Memref sig .tc .vmem S1x1024x128 .fp8e4m3) (harg7 : arg7.IsWhole) (arg8 : Memref sig .tc .vmem S1x1024x128 .fp8e4m3) (harg8 : arg8.IsWhole)
    (x0 : Vec F S30 .f32) (x1 : Vec F S6 .f32) (x2 : Vec F S6 .f32) (x3 : Vec F S30 .f32) (x4 : Vec F S1x1024x640 .fp8e4m3) (x5 : Vec F S1x1024x128 .fp8e4m3) (x6 : Vec F S1x1024x128 .fp8e4m3) (bias : Vec F S128x128 .f32) (amax : Vec F S1x30 .f32) : Loads F where
  q g qb := View.readAt (Elt F) arg6.view (Rect.unit (s := S1x1024x640) ![0, 256 * qb.val, 128 * g.val] S1x256x128.size (q_inb g qb)).toLoadRect (harg6.unread x4)
  k kb := View.readAt (Elt F) arg7.view (Rect.unit (s := S1x1024x128) ![0, 256 * kb.val, 0] S1x256x128.size (k_inb kb)).toLoadRect (harg7.unread x5)
  v n := View.readAt (Elt F) arg8.view (Rect.unit (s := S1x1024x128) ![0, 128 * n.val, 0] S1x128x128.size (v_inb n)).toLoadRect (harg8.unread x6)
  qs g := View.readAt (Elt F) arg2.view (Rect.unit (s := S30) (k0_off1 i (BitVec.ofNat 32 g.val)) S1.size (k0_off1_inb i g)).toLoadRect (harg2.unread x0) (Shape.Idx.first (Nat.succ_pos _))
  ks := View.readAt (Elt F) arg3.view (Rect.unit (s := S6) (k0_off2 i) S1.size (k0_off2_inb i)).toLoadRect (harg3.unread x1) (Shape.Idx.first (Nat.succ_pos _))
  vs := View.readAt (Elt F) arg4.view (Rect.unit (s := S6) (k0_off2 i) S1.size (k0_off2_inb i)).toLoadRect (harg4.unread x2) (Shape.Idx.first (Nat.succ_pos _))
  os g := View.readAt (Elt F) arg5.view (Rect.unit (s := S30) (k0_off1 i (BitVec.ofNat 32 g.val)) S1.size (k0_off1_inb i g)).toLoadRect (harg5.unread x3) (Shape.Idx.first (Nat.succ_pos _))
  bias := bias
  head g := Scalar.addi (Scalar.muli (BitVec.ofNat 32 (i 0).val) 5#32) (BitVec.ofNat 32 g.val)
  amax := amax

end Cert.KernelIdeal.Point
-- ==== Proof.Kernel.Run.lean ====
/- What one grid point's run leaves, read off the generated run: the pieces of codes and the absolute maxima are
   those of `Point`. The first point also puts the mask into scratch and clears the maxima. -/
module

public import proofs.«01_k».proof.Proof.Gen.KernelIdeal.Frame
public import proofs.«01_k».proof.Proof.Kernel.Loads

@[expose] public section

set_option maxRecDepth 16384

noncomputable section

namespace Cert.KernelIdeal.Point

open Idealize.ShloMosaic Idealize.ShloMosaic.TcCoe Idealize.ShloMosaic.Tactic Idealize.SL.Sem
open Cert.KernelIdeal.Gen Cert.KernelIdeal.Unit

variable {F : FTy → Type} [FloatOps F] [Named F]

/-- The absolute maxima before the first point. -/
def amaxZero : Vec F S1x30 .f32 := shapeCast S1x30 (broadcast S1x30 (Scalar.ofBits .f32 0x00000000#32) : FVec F S1x30 .f32) shapeCasts_S1x30_S1x30

/-- The pieces a later point stores into its block of codes. -/
theorem runB_codes (c : Dev nD) (i : grid0.Coords) (arg2 : Memref sig .tc .smem S30 .f32) (harg2 : arg2.IsWhole) (arg3 : Memref sig .tc .smem S6 .f32) (harg3 : arg3.IsWhole) (arg4 : Memref sig .tc .smem S6 .f32) (harg4 : arg4.IsWhole) (arg5 : Memref sig .tc .smem S30 .f32) (harg5 : arg5.IsWhole) (arg6 : Memref sig .tc .vmem S1x1024x640 .fp8e4m3) (harg6 : arg6.IsWhole) (arg7 : Memref sig .tc .vmem S1x1024x128 .fp8e4m3) (harg7 : arg7.IsWhole) (arg8 : Memref sig .tc .vmem S1x1024x128 .fp8e4m3) (harg8 : arg8.IsWhole) (arg9 : Memref sig .tc .vmem S1x1024x640 .fp8e4m3) (harg9 : arg9.IsWhole) (arg10 : Memref sig .tc .vmem S1x30 .f32) (harg10 : arg10.IsWhole) (arg11 : Memref sig .tc .vmem S128x1024 .bf16) (harg11 : arg11.IsWhole) (arg12 : Memref sig .tc .vmem S2x1024x256 .f32) (harg12 : arg12.IsWhole) (arg13 : Memref sig .tc .vmem S128x128 .f32) (harg13 : arg13.IsWhole) (hc0 : ¬cond0_0 i)
    (x0 : Vec F S30 .f32) (x1 : Vec F S6 .f32) (x2 : Vec F S6 .f32) (x3 : Vec F S30 .f32) (x4 : Vec F S1x1024x640 .fp8e4m3) (x5 : Vec F S1x1024x128 .fp8e4m3) (x6 : Vec F S1x1024x128 .fp8e4m3) (xo8 : Vec F S1x30 .f32) (xs2 : Vec F S128x128 .f32) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xs2).1 = codes (loads i arg2 harg2 arg3 harg3 arg4 harg4 arg5 harg5 arg6 harg6 arg7 harg7 arg8 harg8 x0 x1 x2 x3 x4 x5 x6
      (View.readAt (Elt F) arg13.view (Rect.unit (s := S128x128) ![0, 0] S128x128.size inb_S128x128_S128x128_0_0).toLoadRect (harg13.unread xs2))
      (View.readAt (Elt F) arg10.view (Rect.unit (s := S1x30) ![0, 0] S1x30.size inb_S1x30_S1x30_0_0).toLoadRect (harg10.unread xo8))) arg11.view arg12.view := by
  sl_kernel_rfl

/-- The pieces a later point stores into the maxima. -/
theorem runB_amax (c : Dev nD) (i : grid0.Coords) (arg2 : Memref sig .tc .smem S30 .f32) (harg2 : arg2.IsWhole) (arg3 : Memref sig .tc .smem S6 .f32) (harg3 : arg3.IsWhole) (arg4 : Memref sig .tc .smem S6 .f32) (harg4 : arg4.IsWhole) (arg5 : Memref sig .tc .smem S30 .f32) (harg5 : arg5.IsWhole) (arg6 : Memref sig .tc .vmem S1x1024x640 .fp8e4m3) (harg6 : arg6.IsWhole) (arg7 : Memref sig .tc .vmem S1x1024x128 .fp8e4m3) (harg7 : arg7.IsWhole) (arg8 : Memref sig .tc .vmem S1x1024x128 .fp8e4m3) (harg8 : arg8.IsWhole) (arg9 : Memref sig .tc .vmem S1x1024x640 .fp8e4m3) (harg9 : arg9.IsWhole) (arg10 : Memref sig .tc .vmem S1x30 .f32) (harg10 : arg10.IsWhole) (arg11 : Memref sig .tc .vmem S128x1024 .bf16) (harg11 : arg11.IsWhole) (arg12 : Memref sig .tc .vmem S2x1024x256 .f32) (harg12 : arg12.IsWhole) (arg13 : Memref sig .tc .vmem S128x128 .f32) (harg13 : arg13.IsWhole) (hc0 : ¬cond0_0 i)
    (x0 : Vec F S30 .f32) (x1 : Vec F S6 .f32) (x2 : Vec F S6 .f32) (x3 : Vec F S30 .f32) (x4 : Vec F S1x1024x640 .fp8e4m3) (x5 : Vec F S1x1024x128 .fp8e4m3) (x6 : Vec F S1x1024x128 .fp8e4m3) (xo8 : Vec F S1x30 .f32) (xs2 : Vec F S128x128 .f32) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xs2).2.1 = [⟨Rect.unit (s := S1x30) ![0, 0] S1x30.size inb_S1x30_S1x30_0_0, amaxOut (loads i arg2 harg2 arg3 harg3 arg4 harg4 arg5 harg5 arg6 harg6 arg7 harg7 arg8 harg8 x0 x1 x2 x3 x4 x5 x6
      (View.readAt (Elt F) arg13.view (Rect.unit (s := S128x128) ![0, 0] S128x128.size inb_S128x128_S128x128_0_0).toLoadRect (harg13.unread xs2))
      (View.readAt (Elt F) arg10.view (Rect.unit (s := S1x30) ![0, 0] S1x30.size inb_S1x30_S1x30_0_0).toLoadRect (harg10.unread xo8))) arg11.view arg12.view⟩] := by
  sl_kernel_rfl

/-- A later point stores nothing into the mask. -/
theorem runB_mask (c : Dev nD) (i : grid0.Coords) (arg2 : Memref sig .tc .smem S30 .f32) (harg2 : arg2.IsWhole) (arg3 : Memref sig .tc .smem S6 .f32) (harg3 : arg3.IsWhole) (arg4 : Memref sig .tc .smem S6 .f32) (harg4 : arg4.IsWhole) (arg5 : Memref sig .tc .smem S30 .f32) (harg5 : arg5.IsWhole) (arg6 : Memref sig .tc .vmem S1x1024x640 .fp8e4m3) (harg6 : arg6.IsWhole) (arg7 : Memref sig .tc .vmem S1x1024x128 .fp8e4m3) (harg7 : arg7.IsWhole) (arg8 : Memref sig .tc .vmem S1x1024x128 .fp8e4m3) (harg8 : arg8.IsWhole) (arg9 : Memref sig .tc .vmem S1x1024x640 .fp8e4m3) (harg9 : arg9.IsWhole) (arg10 : Memref sig .tc .vmem S1x30 .f32) (harg10 : arg10.IsWhole) (arg11 : Memref sig .tc .vmem S128x1024 .bf16) (harg11 : arg11.IsWhole) (arg12 : Memref sig .tc .vmem S2x1024x256 .f32) (harg12 : arg12.IsWhole) (arg13 : Memref sig .tc .vmem S128x128 .f32) (harg13 : arg13.IsWhole) (hc0 : ¬cond0_0 i)
    (x0 : Vec F S30 .f32) (x1 : Vec F S6 .f32) (x2 : Vec F S6 .f32) (x3 : Vec F S30 .f32) (x4 : Vec F S1x1024x640 .fp8e4m3) (x5 : Vec F S1x1024x128 .fp8e4m3) (x6 : Vec F S1x1024x128 .fp8e4m3) (xo8 : Vec F S1x30 .f32) (xs2 : Vec F S128x128 .f32) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xs2).2.2.1 = [] := by
  sl_kernel_rfl

/-- The pieces the first point stores into its block of codes. -/
theorem runA_codes (c : Dev nD) (i : grid0.Coords) (arg2 : Memref sig .tc .smem S30 .f32) (harg2 : arg2.IsWhole) (arg3 : Memref sig .tc .smem S6 .f32) (harg3 : arg3.IsWhole) (arg4 : Memref sig .tc .smem S6 .f32) (harg4 : arg4.IsWhole) (arg5 : Memref sig .tc .smem S30 .f32) (harg5 : arg5.IsWhole) (arg6 : Memref sig .tc .vmem S1x1024x640 .fp8e4m3) (harg6 : arg6.IsWhole) (arg7 : Memref sig .tc .vmem S1x1024x128 .fp8e4m3) (harg7 : arg7.IsWhole) (arg8 : Memref sig .tc .vmem S1x1024x128 .fp8e4m3) (harg8 : arg8.IsWhole) (arg9 : Memref sig .tc .vmem S1x1024x640 .fp8e4m3) (harg9 : arg9.IsWhole) (arg10 : Memref sig .tc .vmem S1x30 .f32) (harg10 : arg10.IsWhole) (arg11 : Memref sig .tc .vmem S128x1024 .bf16) (harg11 : arg11.IsWhole) (arg12 : Memref sig .tc .vmem S2x1024x256 .f32) (harg12 : arg12.IsWhole) (arg13 : Memref sig .tc .vmem S128x128 .f32) (harg13 : arg13.IsWhole) (hc0 : cond0_0 i)
    (x0 : Vec F S30 .f32) (x1 : Vec F S6 .f32) (x2 : Vec F S6 .f32) (x3 : Vec F S30 .f32) (x4 : Vec F S1x1024x640 .fp8e4m3) (x5 : Vec F S1x1024x128 .fp8e4m3) (x6 : Vec F S1x1024x128 .fp8e4m3)  :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1 = codes (loads i arg2 harg2 arg3 harg3 arg4 harg4 arg5 harg5 arg6 harg6 arg7 harg7 arg8 harg8 x0 x1 x2 x3 x4 x5 x6
      (View.readCov arg13.view [⟨Rect.unit (s := S128x128) ![0, 0] S128x128.size inb_S128x128_S128x128_0_0, mask⟩] (Rect.unit (s := S128x128) ![0, 0] S128x128.size inb_S128x128_S128x128_0_0).toLoadRect)
      (View.readCov arg10.view [⟨Rect.unit (s := S1x30) ![0, 0] S1x30.size inb_S1x30_S1x30_0_0, amaxZero⟩] (Rect.unit (s := S1x30) ![0, 0] S1x30.size inb_S1x30_S1x30_0_0).toLoadRect)) arg11.view arg12.view := by
  sl_kernel_rfl

/-- The pieces the first point stores into the maxima. -/
theorem runA_amax (c : Dev nD) (i : grid0.Coords) (arg2 : Memref sig .tc .smem S30 .f32) (harg2 : arg2.IsWhole) (arg3 : Memref sig .tc .smem S6 .f32) (harg3 : arg3.IsWhole) (arg4 : Memref sig .tc .smem S6 .f32) (harg4 : arg4.IsWhole) (arg5 : Memref sig .tc .smem S30 .f32) (harg5 : arg5.IsWhole) (arg6 : Memref sig .tc .vmem S1x1024x640 .fp8e4m3) (harg6 : arg6.IsWhole) (arg7 : Memref sig .tc .vmem S1x1024x128 .fp8e4m3) (harg7 : arg7.IsWhole) (arg8 : Memref sig .tc .vmem S1x1024x128 .fp8e4m3) (harg8 : arg8.IsWhole) (arg9 : Memref sig .tc .vmem S1x1024x640 .fp8e4m3) (harg9 : arg9.IsWhole) (arg10 : Memref sig .tc .vmem S1x30 .f32) (harg10 : arg10.IsWhole) (arg11 : Memref sig .tc .vmem S128x1024 .bf16) (harg11 : arg11.IsWhole) (arg12 : Memref sig .tc .vmem S2x1024x256 .f32) (harg12 : arg12.IsWhole) (arg13 : Memref sig .tc .vmem S128x128 .f32) (harg13 : arg13.IsWhole) (hc0 : cond0_0 i)
    (x0 : Vec F S30 .f32) (x1 : Vec F S6 .f32) (x2 : Vec F S6 .f32) (x3 : Vec F S30 .f32) (x4 : Vec F S1x1024x640 .fp8e4m3) (x5 : Vec F S1x1024x128 .fp8e4m3) (x6 : Vec F S1x1024x128 .fp8e4m3)  :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 = [⟨Rect.unit (s := S1x30) ![0, 0] S1x30.size inb_S1x30_S1x30_0_0, amaxOut (loads i arg2 harg2 arg3 harg3 arg4 harg4 arg5 harg5 arg6 harg6 arg7 harg7 arg8 harg8 x0 x1 x2 x3 x4 x5 x6
      (View.readCov arg13.view [⟨Rect.unit (s := S128x128) ![0, 0] S128x128.size inb_S128x128_S128x128_0_0, mask⟩] (Rect.unit (s := S128x128) ![0, 0] S128x128.size inb_S128x128_S128x128_0_0).toLoadRect)
      (View.readCov arg10.view [⟨Rect.unit (s := S1x30) ![0, 0] S1x30.size inb_S1x30_S1x30_0_0, amaxZero⟩] (Rect.unit (s := S1x30) ![0, 0] S1x30.size inb_S1x30_S1x30_0_0).toLoadRect)) arg11.view arg12.view⟩,
      ⟨Rect.unit (s := S1x30) ![0, 0] S1x30.size inb_S1x30_S1x30_0_0, amaxZero⟩] := by
  sl_kernel_rfl

/-- The pieces the first point stores into the mask. -/
theorem runA_mask (c : Dev nD) (i : grid0.Coords) (arg2 : Memref sig .tc .smem S30 .f32) (harg2 : arg2.IsWhole) (arg3 : Memref sig .tc .smem S6 .f32) (harg3 : arg3.IsWhole) (arg4 : Memref sig .tc .smem S6 .f32) (harg4 : arg4.IsWhole) (arg5 : Memref sig .tc .smem S30 .f32) (harg5 : arg5.IsWhole) (arg6 : Memref sig .tc .vmem S1x1024x640 .fp8e4m3) (harg6 : arg6.IsWhole) (arg7 : Memref sig .tc .vmem S1x1024x128 .fp8e4m3) (harg7 : arg7.IsWhole) (arg8 : Memref sig .tc .vmem S1x1024x128 .fp8e4m3) (harg8 : arg8.IsWhole) (arg9 : Memref sig .tc .vmem S1x1024x640 .fp8e4m3) (harg9 : arg9.IsWhole) (arg10 : Memref sig .tc .vmem S1x30 .f32) (harg10 : arg10.IsWhole) (arg11 : Memref sig .tc .vmem S128x1024 .bf16) (harg11 : arg11.IsWhole) (arg12 : Memref sig .tc .vmem S2x1024x256 .f32) (harg12 : arg12.IsWhole) (arg13 : Memref sig .tc .vmem S128x128 .f32) (harg13 : arg13.IsWhole) (hc0 : cond0_0 i)
    (x0 : Vec F S30 .f32) (x1 : Vec F S6 .f32) (x2 : Vec F S6 .f32) (x3 : Vec F S30 .f32) (x4 : Vec F S1x1024x640 .fp8e4m3) (x5 : Vec F S1x1024x128 .fp8e4m3) (x6 : Vec F S1x1024x128 .fp8e4m3)  :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1 = [⟨Rect.unit (s := S128x128) ![0, 0] S128x128.size inb_S128x128_S128x128_0_0, mask⟩] := by
  sl_kernel_rfl

end Cert.KernelIdeal.Point
-- ==== Proof.Spec.lean ====
module

public import proofs.«01_k».proof.Proof.RowMath
public import Idealize.ShloMosaic.Lib.Pointwise

/-! # What both programs compute, as a function of the seven arguments

Heads are named by a key head `kv` and a place `g` in its group. `score` is the causal score of a query row against a key
(`-∞` above the diagonal), `out` the attention output of a row at one lane before the output scale. -/

@[expose] public section

noncomputable section

namespace Cert.Spec

open Idealize.ShloMosaic Cert.RowMath

/-- The shape of the query codes, two batches of 1024 rows. -/
abbrev SX : Shape := ⟨3, ![2, 1024, 3840]⟩
/-- The shape of the key codes and of the value codes. -/
abbrev SK : Shape := ⟨3, ![2, 1024, 768]⟩
/-- The shape of an array with one number for each query head. -/
abbrev SH : Shape := ⟨1, ![30]⟩
/-- The shape of an array with one number for each key head. -/
abbrev SG : Shape := ⟨1, ![6]⟩

/-- Lane `d` of query head `(kv, g)` in a query row. -/
abbrev qlane (kv : Fin 6) (g : Fin 5) (d : Fin 128) : Fin 3840 := ⟨kv.val * 640 + g.val * 128 + d.val, by omega⟩

/-- Lane `d` of key head `kv` in a key row. -/
abbrev klane (kv : Fin 6) (d : Fin 128) : Fin 768 := ⟨kv.val * 128 + d.val, by omega⟩

/-- The number of head `(kv, g)`. -/
abbrev head (kv : Fin 6) (g : Fin 5) : Fin 30 := ⟨kv.val * 5 + g.val, by omega⟩

section

variable (x : SX.Idx → EReal) (k v : SK.Idx → EReal) (qs : SH.Idx → EReal) (ks vs : SG.Idx → EReal)

/-- The factor on the dot products of head `(kv, g)`. -/
def gain (kv : Fin 6) (g : Fin 5) : EReal :=
  qs (ix1 (head kv g)) * ks (ix1 kv) * (((Real.sqrt 128)⁻¹ : ℝ) : EReal)

/-- The dot product of query row `q` of head `(kv, g)` with key row `key`. -/
def dot (b : Fin 2) (kv : Fin 6) (g : Fin 5) (q key : Fin 1024) : EReal :=
  ∑ d : Fin 128, x (ix3 b q (qlane kv g d)) * k (ix3 b key (klane kv d))

/-- The causal score. -/
def score (b : Fin 2) (kv : Fin 6) (g : Fin 5) (q key : Fin 1024) : EReal :=
  if key.val ≤ q.val then dot x k b kv g q key * gain qs ks kv g else ⊥

/-- The attention output of query row `q` at lane `d`, in the units of the values. -/
def out (b : Fin 2) (kv : Fin 6) (g : Fin 5) (q : Fin 1024) (d : Fin 128) : EReal :=
  refRow (score x k qs ks b kv g q) (fun key => v (ix3 b key (klane kv d))) * vs (ix1 kv)

end

/-- Clipping to the range of the codes. -/
def clip (t : EReal) : EReal := min (Ideal.ofBits .f32 0x43E00000#32) (max (Ideal.ofBits .f32 0xC3E00000#32) t)

/-- The pattern of minus infinity. -/
theorem ofBits_neg_inf : Ideal.ofBits .f32 0xFF800000#32 = ⊥ := by
  simp [Ideal.ofBits, Ideal.ieee]

/-- The pattern of 128. -/
theorem ofBits_128 : Ideal.ofBits .f32 0x43000000#32 = ((128 : ℝ) : EReal) := by
  simp [Ideal.ofBits, Ideal.ieee]
  rw [← EReal.coe_mul]
  norm_num

/-- A signed comparison of two small words is the comparison of the numbers. -/
theorem select_sle {α : Type} (a b : ℕ) (ha : a < 2 ^ 31) (hb : b < 2 ^ 31) (u w : α) :
    Scalar.select (IntOp.cmpi CmpIPredicate.sle (BitVec.ofNat 32 a) (BitVec.ofNat 32 b)) u w = if a ≤ b then u else w := by
  have ha' : (BitVec.ofNat 32 a).toInt = a := by
    rw [BitVec.toInt_eq_toNat_of_lt] <;> simp <;> omega
  have hb' : (BitVec.ofNat 32 b).toInt = b := by
    rw [BitVec.toInt_eq_toNat_of_lt] <;> simp <;> omega
  by_cases h : a ≤ b
  · have : (BitVec.ofNat 32 a).sle (BitVec.ofNat 32 b) = true := by
      simp [BitVec.sle, ha', hb', h]
    simp [Scalar.select, IntOp.cmpi, this, h]
  · have : (BitVec.ofNat 32 a).sle (BitVec.ofNat 32 b) = false := by
      simp [BitVec.sle, ha', hb', h]
    simp [Scalar.select, IntOp.cmpi, this, h]

end Cert.Spec

end
-- ==== Proof.Kernel.Blocks.lean ====
/- The blocks a grid point's windows hold are pieces of the arguments. Point `t` is batch `t % 2` of key head `t / 2`. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Blocks

open Idealize.ShloMosaic Idealize.ShloMosaic.TcCoe Idealize.ShloMosaic.Tactic Idealize.SL.Sem
open Cert.KernelIdeal.Gen
open Cert.Spec (qlane klane)

/-- The key head of a point. -/
abbrev kvOf (t : Fin cfg0.N) : Fin 6 := ⟨t.val / 2, by have := lt_of_lt_of_eq t.isLt (show cfg0.N = 12 from N_0); omega⟩

/-- The batch of a point. -/
abbrev bOf (t : Fin cfg0.N) : Fin 2 := ⟨t.val % 2, Nat.mod_lt _ (by decide)⟩

/-- The two coordinates of a grid point are its key head and its batch. -/
theorem coord (t : Fin cfg0.N) : (grid0.coords t 0).val = (kvOf t).val :=
  (by decide +kernel : ∀ t : Fin grid0.N, (grid0.coords t 0).val = t.val / 2) t

/-- Where each operand's block lies at each grid point. -/
theorem idx : ∀ t : Fin cfg0.N, win0_0.index t = ![0] ∧ win0_1.index t = ![0] ∧ win0_2.index t = ![0] ∧ win0_3.index t = ![0]
    ∧ win0_4.index t = ![t.val % 2, 0, t.val / 2] ∧ win0_5.index t = ![t.val % 2, 0, t.val / 2] ∧ win0_6.index t = ![t.val % 2, 0, t.val / 2] :=
  (by decide +kernel : ∀ t : Fin grid0.N, _)

variable {F : FTy → Type} [FloatOps F] [Named F] (m : (ℓ : Loc nD τ sig) → Buf (Elt F) ℓ) (c : Dev nD) (t : Fin cfg0.N)

/-- The query scales, whole at every point. -/
theorem blk0 : (iblk m c 0 t : Vec F S30 .f32) = m ((c : Thread nD τ).loc main_arg3) := by
  funext y
  blk_ext [iblk, V, idx t]

/-- The key scales, whole at every point. -/
theorem blk1 : (iblk m c 1 t : Vec F S6 .f32) = m ((c : Thread nD τ).loc main_arg4) := by
  funext y
  blk_ext [iblk, V, idx t]

/-- The value scales, whole at every point. -/
theorem blk2 : (iblk m c 2 t : Vec F S6 .f32) = m ((c : Thread nD τ).loc main_arg5) := by
  funext y
  blk_ext [iblk, V, idx t]

/-- The output scales, whole at every point. -/
theorem blk3 : (iblk m c 3 t : Vec F S30 .f32) = m ((c : Thread nD τ).loc main_arg6) := by
  funext y
  blk_ext [iblk, V, idx t]

/-- A point's queries: its batch, its key head's 640 lanes. -/
theorem blk4 (q : Fin 1024) (l : Fin 640) : (iblk m c 4 t : Vec F S1x1024x640 .fp8e4m3) (ix3 0 q l)
    = m ((c : Thread nD τ).loc main_arg0) (ix3 (bOf t) q ⟨(kvOf t).val * 640 + l.val, by omega⟩) := by
  blk_ext [iblk, V, idx t]

/-- A point's keys: its batch, its key head's 128 lanes. -/
theorem blk5 (q : Fin 1024) (d : Fin 128) : (iblk m c 5 t : Vec F S1x1024x128 .fp8e4m3) (ix3 0 q d)
    = m ((c : Thread nD τ).loc main_arg1) (ix3 (bOf t) q (klane (kvOf t) d)) := by
  blk_ext [iblk, V, idx t]

/-- A point's values: its batch, its key head's 128 lanes. -/
theorem blk6 (q : Fin 1024) (d : Fin 128) : (iblk m c 6 t : Vec F S1x1024x128 .fp8e4m3) (ix3 0 q d)
    = m ((c : Thread nD τ).loc main_arg2) (ix3 (bOf t) q (klane (kvOf t) d)) := by
  blk_ext [iblk, V, idx t]

end Cert.KernelIdeal.Blocks

end
-- ==== Proof.FinSplit.lean ====
/- Sums and suprema over `m * n` places, taken block by block, and the pairwise trees the kernel folds rows with. -/
module

public import proofs.«01_k».proof.Proof.RowMath

@[expose] public section

noncomputable section

namespace Cert.RowMath

/-- A sum over `m * n` places is the sum over `m` blocks of `n` places. -/
theorem sum_split (m n : ℕ) (f : Fin (m * n) → EReal) :
    ∑ x, f x = ∑ k : Fin m, ∑ r : Fin n, f (finProdFinEquiv (k, r)) := by
  rw [← finProdFinEquiv.sum_comp f, Fintype.sum_prod_type]

/-- A supremum over `m * n` places is the supremum over `m` blocks of `n` places. -/
theorem sup_split (m n : ℕ) (f : Fin (m * n) → EReal) :
    Finset.univ.sup f = Finset.univ.sup fun k : Fin m => Finset.univ.sup fun r : Fin n => f (finProdFinEquiv (k, r)) := by
  apply le_antisymm
  · refine Finset.sup_le fun x _ => ?_
    obtain ⟨⟨k, r⟩, rfl⟩ := finProdFinEquiv.surjective x
    exact le_trans (Finset.le_sup (f := fun r : Fin n => f (finProdFinEquiv (k, r))) (Finset.mem_univ r))
      (Finset.le_sup (f := fun k : Fin m => Finset.univ.sup fun r : Fin n => f (finProdFinEquiv (k, r))) (Finset.mem_univ k))
  · exact Finset.sup_le fun k _ => Finset.sup_le fun r _ => Finset.le_sup (f := f) (Finset.mem_univ _)

/-- A supremum over two places. -/
theorem sup_two (f : Fin 2 → EReal) : Finset.univ.sup f = max (f 0) (f 1) := by
  apply le_antisymm
  · refine Finset.sup_le fun x _ => ?_
    fin_cases x
    · exact le_max_left _ _
    · exact le_max_right _ _
  · exact max_le (Finset.le_sup (f := f) (Finset.mem_univ 0)) (Finset.le_sup (f := f) (Finset.mem_univ 1))

/-- The supremum of the larger of two families. -/
theorem sup_max {ι : Type} [Fintype ι] (f g : ι → EReal) :
    (Finset.univ.sup fun x => max (f x) (g x)) = max (Finset.univ.sup f) (Finset.univ.sup g) :=
  Finset.sup_sup

/-- A supremum taken in either order. -/
theorem sup_comm {ι κ : Type} [Fintype ι] [Fintype κ] (f : ι → κ → EReal) :
    (Finset.univ.sup fun x => Finset.univ.sup fun y => f x y) = Finset.univ.sup fun y => Finset.univ.sup fun x => f x y :=
  Finset.sup_comm _ _ _

/-- The pairwise tree over 16 summands. -/
theorem sum_tree16 (f : Fin 16 → EReal) : ∑ x, f x =
    (((f 0 + f 1) + (f 2 + f 3)) + ((f 4 + f 5) + (f 6 + f 7))) + (((f 8 + f 9) + (f 10 + f 11)) + ((f 12 + f 13) + (f 14 + f 15))) := by
  rw [sum_split 8 2, sum_split 4 2, sum_split 2 2]
  simp only [Fin.sum_univ_two]
  rfl

/-- The pairwise tree over 16 values. -/
theorem sup_tree16 (f : Fin 16 → EReal) : Finset.univ.sup f =
    max (max (max (max (f 0) (f 1)) (max (f 2) (f 3))) (max (max (f 4) (f 5)) (max (f 6) (f 7))))
      (max (max (max (f 8) (f 9)) (max (f 10) (f 11))) (max (max (f 12) (f 13)) (max (f 14) (f 15)))) := by
  rw [sup_split 8 2, sup_split 4 2, sup_split 2 2]
  simp only [sup_two]
  rfl

/-- A sum over 32 places, in two halves of 16. -/
theorem sum_halves32 (f : Fin 32 → EReal) :
    ∑ x, f x = (∑ x : Fin 16, f ⟨x.val, by omega⟩) + ∑ x : Fin 16, f ⟨16 + x.val, by omega⟩ := by
  rw [sum_split 2 16, Fin.sum_univ_two]
  refine congrArg₂ (· + ·) (Finset.sum_congr rfl fun x _ => congrArg f (Fin.ext ?_)) (Finset.sum_congr rfl fun x _ => congrArg f (Fin.ext ?_))
  · show x.val + 16 * 0 = x.val; omega
  · show x.val + 16 * 1 = 16 + x.val; omega

/-- A supremum over 32 places, in two halves of 16. -/
theorem sup_halves32 (f : Fin 32 → EReal) :
    Finset.univ.sup f = max (Finset.univ.sup fun x : Fin 16 => f ⟨x.val, by omega⟩) (Finset.univ.sup fun x : Fin 16 => f ⟨16 + x.val, by omega⟩) := by
  rw [sup_split 2 16, sup_two]
  refine congrArg₂ max (Finset.sup_congr rfl fun x _ => congrArg f (Fin.ext ?_)) (Finset.sup_congr rfl fun x _ => congrArg f (Fin.ext ?_))
  · show x.val + 16 * 0 = x.val; omega
  · show x.val + 16 * 1 = 16 + x.val; omega

/-- A sum over 256 places, in two halves of 128. -/
theorem sum_halves256 (f : Fin 256 → EReal) :
    ∑ x, f x = (∑ x : Fin 128, f ⟨x.val, by omega⟩) + ∑ x : Fin 128, f ⟨128 + x.val, by omega⟩ := by
  rw [sum_split 2 128, Fin.sum_univ_two]
  refine congrArg₂ (· + ·) (Finset.sum_congr rfl fun x _ => congrArg f (Fin.ext ?_)) (Finset.sum_congr rfl fun x _ => congrArg f (Fin.ext ?_))
  · show x.val + 128 * 0 = x.val; omega
  · show x.val + 128 * 1 = 128 + x.val; omega

/-- A supremum over 256 places, in two halves of 128. -/
theorem sup_halves256 (f : Fin 256 → EReal) :
    Finset.univ.sup f = max (Finset.univ.sup fun x : Fin 128 => f ⟨x.val, by omega⟩) (Finset.univ.sup fun x : Fin 128 => f ⟨128 + x.val, by omega⟩) := by
  rw [sup_split 2 128, sup_two]
  refine congrArg₂ max (Finset.sup_congr rfl fun x _ => congrArg f (Fin.ext ?_)) (Finset.sup_congr rfl fun x _ => congrArg f (Fin.ext ?_))
  · show x.val + 128 * 0 = x.val; omega
  · show x.val + 128 * 1 = 128 + x.val; omega

/-- The key at place `i` of block `kb`. -/
abbrev place (kb : Fin 4) (i : Fin 256) : Fin 1024 := ⟨kb.val * 256 + i.val, by omega⟩

/-- A sum over 1024 places, in four blocks of 256. -/
theorem sum_blocks (f : Fin 1024 → EReal) :
    ∑ x, f x = (((∑ i, f (place 0 i)) + ∑ i, f (place 1 i)) + ∑ i, f (place 2 i)) + ∑ i, f (place 3 i) := by
  rw [sum_split 4 256, Fin.sum_univ_four]
  refine congrArg₂ (· + ·) (congrArg₂ (· + ·) (congrArg₂ (· + ·) (Finset.sum_congr rfl fun x _ => congrArg f (Fin.ext ?_)) (Finset.sum_congr rfl fun x _ => congrArg f (Fin.ext ?_)))
    (Finset.sum_congr rfl fun x _ => congrArg f (Fin.ext ?_))) (Finset.sum_congr rfl fun x _ => congrArg f (Fin.ext ?_))
  · show x.val + 256 * 0 = 0 * 256 + x.val; omega
  · show x.val + 256 * 1 = 1 * 256 + x.val; omega
  · show x.val + 256 * 2 = 2 * 256 + x.val; omega
  · show x.val + 256 * 3 = 3 * 256 + x.val; omega

/-- A supremum over 1024 places, in four blocks of 256. -/
theorem sup_blocks (f : Fin 1024 → EReal) :
    Finset.univ.sup f = max (max (max (Finset.univ.sup fun i => f (place 0 i)) (Finset.univ.sup fun i => f (place 1 i)))
      (Finset.univ.sup fun i => f (place 2 i))) (Finset.univ.sup fun i => f (place 3 i)) := by
  have h4 : ∀ g : Fin 4 → EReal, Finset.univ.sup g = max (max (max (g 0) (g 1)) (g 2)) (g 3) := fun g => by
    rw [sup_split 2 2]
    simp only [sup_two]
    exact (max_assoc _ _ _).symm
  rw [sup_split 4 256, h4]
  refine congrArg₂ max (congrArg₂ max (congrArg₂ max (Finset.sup_congr rfl fun x _ => congrArg f (Fin.ext ?_)) (Finset.sup_congr rfl fun x _ => congrArg f (Fin.ext ?_)))
    (Finset.sup_congr rfl fun x _ => congrArg f (Fin.ext ?_))) (Finset.sup_congr rfl fun x _ => congrArg f (Fin.ext ?_))
  · show x.val + 256 * 0 = 0 * 256 + x.val; omega
  · show x.val + 256 * 1 = 1 * 256 + x.val; omega
  · show x.val + 256 * 2 = 2 * 256 + x.val; omega
  · show x.val + 256 * 3 = 3 * 256 + x.val; omega

/-- Summing 8 rows of block sums is summing all the rows: 16 blocks. -/
theorem sum_rows128 (f : Fin 128 → EReal) :
    (∑ r : Fin 8, ∑ k : Fin 16, f ⟨8 * k.val + r.val, by omega⟩) = ∑ x, f x := by
  rw [sum_split 16 8, Finset.sum_comm]
  refine Finset.sum_congr rfl fun k _ => Finset.sum_congr rfl fun r _ => congrArg f (Fin.ext ?_)
  show 8 * k.val + r.val = r.val + 8 * k.val; omega

/-- Summing 8 rows of block sums is summing all the rows: 32 blocks. -/
theorem sum_rows256 (f : Fin 256 → EReal) :
    (∑ r : Fin 8, ∑ k : Fin 32, f ⟨8 * k.val + r.val, by omega⟩) = ∑ x, f x := by
  rw [sum_split 32 8, Finset.sum_comm]
  refine Finset.sum_congr rfl fun k _ => Finset.sum_congr rfl fun r _ => congrArg f (Fin.ext ?_)
  show 8 * k.val + r.val = r.val + 8 * k.val; omega

/-- The largest of 8 rows of block maxima is the largest of all the rows: 16 blocks. -/
theorem sup_rows128 (f : Fin 128 → EReal) :
    (Finset.univ.sup fun r : Fin 8 => Finset.univ.sup fun k : Fin 16 => f ⟨8 * k.val + r.val, by omega⟩) = Finset.univ.sup f := by
  rw [sup_split 16 8, sup_comm]
  refine Finset.sup_congr rfl fun k _ => Finset.sup_congr rfl fun r _ => congrArg f (Fin.ext ?_)
  show 8 * k.val + r.val = r.val + 8 * k.val; omega

/-- The largest of 8 rows of block maxima is the largest of all the rows: 32 blocks. -/
theorem sup_rows256 (f : Fin 256 → EReal) :
    (Finset.univ.sup fun r : Fin 8 => Finset.univ.sup fun k : Fin 32 => f ⟨8 * k.val + r.val, by omega⟩) = Finset.univ.sup f := by
  rw [sup_split 32 8, sup_comm]
  refine Finset.sup_congr rfl fun k _ => Finset.sup_congr rfl fun r _ => congrArg f (Fin.ext ?_)
  show 8 * k.val + r.val = r.val + 8 * k.val; omega

end Cert.RowMath
-- ==== Proof.Kernel.UnitValue.lean ====
/- What the kernel's steps compute over exact numbers, entry by entry: the scores, the row maxima, the weights and
   their sums. -/
module

public import proofs.«01_k».proof.Proof.Kernel.Unit
public import Idealize.ShloMosaic.Lib.Pointwise
public import proofs.«01_k».proof.Proof.Spec
public import proofs.«01_k».proof.Proof.FinSplit

@[expose] public section

set_option maxRecDepth 16384

noncomputable section

namespace Cert.KernelIdeal.Unit

open Idealize.ShloMosaic Idealize.SL.Sem
open Cert.KernelIdeal.Gen

/-- A score is the dot product of a key row and a query row, times the factor. -/
theorem score_apply (c : Ideal .f32) (q k : Vec Ideal S1x256x128 .fp8e4m3) (i j : Fin 256) :
    score c q k (ix2 i j) = (∑ d : Fin 128, k (ix3 0 i d) * q (ix3 0 j d)) * c := by
  pointwise [score]

/-- The exponentials of a whole block of scores, read at a place. -/
theorem exp1_apply (s : Vec Ideal S1x256x256 .f32) (mx : FVec Ideal S1x256 .f32) (i j : Fin 256) :
    exp1 s mx (ix2 i j) = Ideal.exp2 (s (ix3 0 i j) - mx (ix2 0 j)) := by
  pointwise [exp1]
  rfl

/-- The exponentials of a quarter block of scores, read at a place. -/
theorem exp4_apply (s : Vec Ideal S1x128x128 .f32) (mx : FVec Ideal S1x128 .f32) (i j : Fin 128) :
    exp4 s mx (ix2 i j) = Ideal.exp2 (s (ix3 0 i j) - mx (ix2 0 j)) := by
  pointwise [exp4]
  rfl

/-- The left half of a row of maxima. -/
theorem leftHalf_apply (mx : FVec Ideal S1x256 .f32) (j : Fin 128) :
    leftHalf mx (ix2 0 j) = mx (ix2 0 ⟨j.val, by omega⟩) := by
  pointwise [leftHalf]

/-- The right half of a row of maxima. -/
theorem rightHalf_apply (mx : FVec Ideal S1x256 .f32) (j : Fin 128) :
    rightHalf mx (ix2 0 j) = mx (ix2 0 ⟨128 + j.val, by omega⟩) := by
  pointwise [rightHalf]

/-- A product of transposed values with weights, read at a place. -/
theorem weigh_apply (v : Vec Ideal S128x256 .bf16) (p : FVec Ideal S256x256 .bf16) (d : Fin 128) (j : Fin 256) :
    weigh v p (ix2 d j) = ∑ i : Fin 256, v (ix2 d i) * p (ix2 i j) := by
  pointwise [weigh]

/-- The greatest of the eight folded rows. -/
theorem rowMax_apply (x : FVec Ideal S8x256 .f32) (j : Fin 256) :
    rowMax x (ix2 0 j) = Finset.univ.sup fun r : Fin 8 => x (ix2 r j) := by
  pointwise [rowMax]
  rw [Spec.ofBits_neg_inf]
  rfl

/-- The sum of the eight folded rows. -/
theorem rowSum_apply (x : FVec Ideal S8x256 .f32) (j : Fin 256) :
    rowSum x (ix2 0 j) = ∑ r : Fin 8, x (ix2 r j) := by
  pointwise [rowSum]

/-- The four quarters of a diagonal block put together: the one below the diagonal is zero. -/
theorem joinDiag_apply (a b d : FVec Ideal S128x128 .f32) (i j : Fin 256) :
    joinDiag a b d (ix2 i j) = if hi : i.val < 128 then
        (if hj : j.val < 128 then a (ix2 ⟨i.val, hi⟩ ⟨j.val, hj⟩) else b (ix2 ⟨i.val, hi⟩ ⟨j.val - 128, by omega⟩))
      else (if hj : j.val < 128 then (0 : EReal) else d (ix2 ⟨i.val - 128, by omega⟩ ⟨j.val - 128, by omega⟩)) := by
  pointwise [joinDiag]

/-- Two blocks of eight rows set side by side. -/
theorem beside8_apply (l r : FVec Ideal S8x128 .f32) (i : Fin 8) (j : Fin 256) :
    beside8 l r (ix2 i j) = if hj : j.val < 128 then l (ix2 i ⟨j.val, hj⟩) else r (ix2 i ⟨j.val - 128, by omega⟩) := by
  pointwise [beside8]

/-- The weighted sum times the output factor over the row sum. -/
theorem finish_apply (gain : Ideal .f32) (acc : FVec Ideal S128x256 .f32) (l8 : FVec Ideal S8x256 .f32) (d : Fin 128) (j : Fin 256) :
    finish gain acc l8 (ix2 d j) = acc (ix2 d j) * Ideal.div gain (rowSum l8 (ix2 0 j)) := by
  pointwise [finish]

/-- The codes of the first 128 queries of a tile: transposed and clipped. -/
theorem codes0_apply (t : FVec Ideal S128x256 .f32) (i d : Fin 128) :
    codes0 t (ix3 0 i d) = Spec.clip (t (ix2 d ⟨i.val, by omega⟩)) := by
  pointwise [codes0, codesOf, Spec.clip]

/-- The codes of the last 128 queries of a tile: transposed and clipped. -/
theorem codes1_apply (t : FVec Ideal S128x256 .f32) (i d : Fin 128) :
    codes1 t (ix3 0 i d) = Spec.clip (t (ix2 d ⟨128 + i.val, by omega⟩)) := by
  pointwise [codes1, codesOf, Spec.clip]

/-- The mask is zero where the key is not after the query, and minus infinity elsewhere. -/
theorem mask_apply (i j : Fin 128) : mask (F := Ideal) (ix2 i j) = if i ≤ j then (0 : EReal) else ⊥ := by
  pointwise [mask]
  rw [Spec.select_sle _ _ (by omega) (by omega), Spec.ofBits_neg_inf]
  rfl

/-- A block of values as it is stored, transposed. -/
theorem putV_apply (v : Vec Ideal S1x128x128 .fp8e4m3) (d i : Fin 128) : putV v (ix2 d i) = v (ix3 0 i d) := by
  pointwise [putV]

/-- 128 rows folded to eight by sums. -/
theorem fold16_add (x : FVec Ideal S128x128 .f32) (r : Fin 8) (j : Fin 128) :
    fold16 addf x (ix2 r j) = ∑ k : Fin 16, x (ix2 ⟨8 * k.val + r.val, by omega⟩ j) := by
  rw [RowMath.sum_tree16]
  pointwise [fold16]

/-- 128 rows folded to eight by maxima. -/
theorem fold16_max (x : FVec Ideal S128x128 .f32) (r : Fin 8) (j : Fin 128) :
    fold16 maximumf x (ix2 r j) = Finset.univ.sup fun k : Fin 16 => x (ix2 ⟨8 * k.val + r.val, by omega⟩ j) := by
  rw [RowMath.sup_tree16]
  pointwise [fold16]

/-- 256 rows folded to eight by sums. -/
theorem fold32_add (x : FVec Ideal S256x256 .f32) (r : Fin 8) (j : Fin 256) :
    fold32 addf x (ix2 r j) = ∑ k : Fin 32, x (ix2 ⟨8 * k.val + r.val, by omega⟩ j) := by
  rw [RowMath.sum_halves32, RowMath.sum_tree16, RowMath.sum_tree16]
  pointwise [fold32]

/-- 256 rows folded to eight by maxima. -/
theorem fold32_max (x : FVec Ideal S256x256 .f32) (r : Fin 8) (j : Fin 256) :
    fold32 maximumf x (ix2 r j) = Finset.univ.sup fun k : Fin 32 => x (ix2 ⟨8 * k.val + r.val, by omega⟩ j) := by
  rw [RowMath.sup_halves32, RowMath.sup_tree16, RowMath.sup_tree16]
  pointwise [fold32]

/-- The 128 rows of a finished tile folded to eight by maxima. -/
theorem foldT_max (x : FVec Ideal S128x256 .f32) (r : Fin 8) (j : Fin 256) :
    foldT maximumf x (ix2 r j) = Finset.univ.sup fun k : Fin 16 => x (ix2 ⟨8 * k.val + r.val, by omega⟩ j) := by
  rw [RowMath.sup_tree16]
  pointwise [foldT]

end Cert.KernelIdeal.Unit
-- ==== Proof.Kernel.TileValue.lean ====
/- A whole tile of 256 queries over exact numbers: its result at a query and a dimension is the kernel's row formula
   over all 1024 keys, the keys after the query counting for minus infinity. -/
module

public import proofs.«01_k».proof.Proof.Kernel.UnitValue

@[expose] public section

set_option maxRecDepth 16384

noncomputable section

namespace Cert.KernelIdeal.Unit

open Idealize.ShloMosaic Idealize.SL.Sem
open Cert.KernelIdeal.Gen Cert.RowMath

/-- The mask, over exact numbers. -/
def maskI : Vec Ideal S128x128 .f32 := mask (F := Ideal)

/-- The mask over exact numbers. -/
theorem maskI_apply (i j : Fin 128) : maskI (ix2 i j) = if i ≤ j then (0 : EReal) else ⊥ := mask_apply i j

/-- Two to the power of minus infinity is zero. -/
theorem exp2_bot : Ideal.exp2 ⊥ = 0 := rfl

/-- Row maxima of a maximum of two blocks. -/
theorem rowMax_max (x y : FVec Ideal S8x256 .f32) (j : Fin 256) :
    rowMax (maximumf x y) (ix2 0 j) = max (rowMax x (ix2 0 j)) (rowMax y (ix2 0 j)) := by
  rw [rowMax_apply, rowMax_apply, rowMax_apply, ← sup_max]
  rfl

/-- Row sums of a sum of two blocks. -/
theorem rowSum_add (x y : FVec Ideal S8x256 .f32) (j : Fin 256) :
    rowSum (addf x y) (ix2 0 j) = rowSum x (ix2 0 j) + rowSum y (ix2 0 j) := by
  rw [rowSum_apply, rowSum_apply, rowSum_apply, ← Finset.sum_add_distrib]
  rfl

/-- The column maximum of a whole block, through its folding to eight rows. -/
theorem rowMax_fold32 (x : FVec Ideal S256x256 .f32) (j : Fin 256) :
    rowMax (fold32 maximumf x) (ix2 0 j) = Finset.univ.sup fun i : Fin 256 => x (ix2 i j) := by
  simp only [rowMax_apply, fold32_max]
  exact sup_rows256 fun i => x (ix2 i j)

/-- The column sum of a whole block, through its folding to eight rows. -/
theorem rowSum_fold32 (x : FVec Ideal S256x256 .f32) (j : Fin 256) :
    rowSum (fold32 addf x) (ix2 0 j) = ∑ i : Fin 256, x (ix2 i j) := by
  simp only [rowSum_apply, fold32_add]
  exact sum_rows256 fun i => x (ix2 i j)

/-- The column maximum of a diagonal block, through its three quarters. -/
theorem rowMax_foldDiag (a b d : FVec Ideal S128x128 .f32) (j : Fin 256) :
    rowMax (foldDiag maximumf a b d) (ix2 0 j) = if hj : j.val < 128 then
        Finset.univ.sup fun i : Fin 128 => a (ix2 i ⟨j.val, hj⟩)
      else max (Finset.univ.sup fun i : Fin 128 => b (ix2 i ⟨j.val - 128, by omega⟩))
        (Finset.univ.sup fun i : Fin 128 => d (ix2 i ⟨j.val - 128, by omega⟩)) := by
  simp only [rowMax_apply, foldDiag, beside8_apply]
  split
  · simp only [fold16_max]
    exact sup_rows128 fun i => a (ix2 i ⟨j.val, _⟩)
  · have h : ∀ r l, maximumf (fold16 maximumf b) (fold16 maximumf d) (ix2 r l) = max (fold16 maximumf b (ix2 r l)) (fold16 maximumf d (ix2 r l)) :=
      fun _ _ => rfl
    simp only [h, fold16_max]
    rw [sup_max]
    exact congrArg₂ max (sup_rows128 fun i => b (ix2 i ⟨j.val - 128, _⟩)) (sup_rows128 fun i => d (ix2 i ⟨j.val - 128, _⟩))

/-- The column sum of a diagonal block, through its three quarters. -/
theorem rowSum_foldDiag (a b d : FVec Ideal S128x128 .f32) (j : Fin 256) :
    rowSum (foldDiag addf a b d) (ix2 0 j) = if hj : j.val < 128 then
        ∑ i : Fin 128, a (ix2 i ⟨j.val, hj⟩)
      else (∑ i : Fin 128, b (ix2 i ⟨j.val - 128, by omega⟩)) + ∑ i : Fin 128, d (ix2 i ⟨j.val - 128, by omega⟩) := by
  simp only [rowSum_apply, foldDiag, beside8_apply]
  split
  · simp only [fold16_add]
    exact sum_rows128 fun i => a (ix2 i ⟨j.val, _⟩)
  · have h : ∀ r l, addf (fold16 addf b) (fold16 addf d) (ix2 r l) = fold16 addf b (ix2 r l) + fold16 addf d (ix2 r l) :=
      fun _ _ => rfl
    simp only [h, fold16_add]
    rw [Finset.sum_add_distrib]
    exact congrArg₂ (· + ·) (sum_rows128 fun i => b (ix2 i ⟨j.val - 128, _⟩)) (sum_rows128 fun i => d (ix2 i ⟨j.val - 128, _⟩))

/-- A query's column of a diagonal block, the keys after the query at minus infinity. -/
def col (st : FVec Ideal S256x256 .f32) (j i : Fin 256) : EReal := if i.val ≤ j.val then st (ix2 i j) else ⊥

/-- The top left quarter of a diagonal block, masked. -/
theorem quarterA_apply (st : FVec Ideal S256x256 .f32) (i j : Fin 128) :
    quarterA st maskI (ix2 i j) = col st ⟨j.val, by omega⟩ ⟨i.val, by omega⟩ := by
  have h : quarterA st maskI (ix2 i j) = st (ix2 ⟨i.val, by omega⟩ ⟨j.val, by omega⟩) + maskI (ix2 i j) := by
    pointwise [quarterA]
  rw [h, maskI_apply, col]
  by_cases hij : i.val ≤ j.val
  · rw [if_pos (show i ≤ j from hij), if_pos hij, add_zero]
  · rw [if_neg (show ¬ i ≤ j from hij), if_neg hij, EReal.add_bot]

/-- The top right quarter of a diagonal block. -/
theorem quarterB_apply (st : FVec Ideal S256x256 .f32) (i j : Fin 128) :
    quarterB st (ix2 i j) = col st ⟨128 + j.val, by omega⟩ ⟨i.val, by omega⟩ := by
  have h : quarterB st (ix2 i j) = st (ix2 ⟨i.val, by omega⟩ ⟨128 + j.val, by omega⟩) := by
    pointwise [quarterB]
  rw [h, col, if_pos (show i.val ≤ 128 + j.val by omega)]

/-- The bottom right quarter of a diagonal block, masked. -/
theorem quarterD_apply (st : FVec Ideal S256x256 .f32) (i j : Fin 128) :
    quarterD st maskI (ix2 i j) = col st ⟨128 + j.val, by omega⟩ ⟨128 + i.val, by omega⟩ := by
  have h : quarterD st maskI (ix2 i j) = st (ix2 ⟨128 + i.val, by omega⟩ ⟨128 + j.val, by omega⟩) + maskI (ix2 i j) := by
    pointwise [quarterD]
  rw [h, maskI_apply, col]
  by_cases hij : i.val ≤ j.val
  · rw [if_pos (show i ≤ j from hij), if_pos (show 128 + i.val ≤ 128 + j.val by omega), add_zero]
  · rw [if_neg (show ¬ i ≤ j from hij), if_neg (show ¬ 128 + i.val ≤ 128 + j.val by omega), EReal.add_bot]

/-- A quarter as it is stored. -/
theorem put4_apply (x : FVec Ideal S128x128 .f32) (i j : Fin 128) : put4 x (ix3 0 i j) = x (ix2 i j) := by
  pointwise [put4]

/-- A whole block as it is stored. -/
theorem put1_apply (x : FVec Ideal S256x256 .f32) (i j : Fin 256) : put1 x (ix3 0 i j) = x (ix2 i j) := by
  pointwise [put1]

/-- The lower left quarter of a diagonal block is masked altogether. -/
theorem col_lower (st : FVec Ideal S256x256 .f32) (j : Fin 128) (i : Fin 128) :
    col st ⟨j.val, by omega⟩ ⟨128 + i.val, by omega⟩ = ⊥ := if_neg (show ¬ 128 + i.val ≤ j.val by omega)

/-- The column maximum of a diagonal block is the maximum of its causal scores. -/
theorem rowMax_diag (st : FVec Ideal S256x256 .f32) (j : Fin 256) :
    rowMax (diagMax st maskI) (ix2 0 j) = Finset.univ.sup (col st j) := by
  rw [diagMax, rowMax_foldDiag, sup_halves256]
  split
  · rename_i hj
    have h0 : (Finset.univ.sup fun x : Fin 128 => col st j ⟨128 + x.val, by omega⟩) = ⊥ :=
      Finset.sup_eq_bot_iff _ _ |>.mpr fun x _ => col_lower st ⟨j.val, hj⟩ x
    rw [h0, max_eq_left bot_le]
    exact Finset.sup_congr rfl fun i _ => quarterA_apply st i ⟨j.val, hj⟩
  · rename_i hj
    have e : (⟨128 + (j.val - 128), by omega⟩ : Fin 256) = j := Fin.ext (by show 128 + (j.val - 128) = j.val; omega)
    refine congrArg₂ max (Finset.sup_congr rfl fun i _ => ?_) (Finset.sup_congr rfl fun i _ => ?_)
    · rw [quarterB_apply]; exact congrArg (fun k => col st k ⟨i.val, _⟩) e
    · rw [quarterD_apply]; exact congrArg (fun k => col st k ⟨128 + i.val, _⟩) e

/-- The weights of the three quarters read back, at a place of the block. -/
theorem expA (st : FVec Ideal S256x256 .f32) (mx : FVec Ideal S1x256 .f32) (i j : Fin 128) :
    exp4 (put4 (quarterA st maskI)) (leftHalf mx) (ix2 i j)
      = Ideal.exp2 (col st ⟨j.val, by omega⟩ ⟨i.val, by omega⟩ - mx (ix2 0 ⟨j.val, by omega⟩)) := by
  rw [exp4_apply, put4_apply, quarterA_apply, leftHalf_apply]

/-- The exponentials of the top right quarter. -/
theorem expB (st : FVec Ideal S256x256 .f32) (mx : FVec Ideal S1x256 .f32) (i j : Fin 128) :
    exp4 (put4 (quarterB st)) (rightHalf mx) (ix2 i j)
      = Ideal.exp2 (col st ⟨128 + j.val, by omega⟩ ⟨i.val, by omega⟩ - mx (ix2 0 ⟨128 + j.val, by omega⟩)) := by
  rw [exp4_apply, put4_apply, quarterB_apply, rightHalf_apply]

/-- The exponentials of the bottom right quarter. -/
theorem expD (st : FVec Ideal S256x256 .f32) (mx : FVec Ideal S1x256 .f32) (i j : Fin 128) :
    exp4 (put4 (quarterD st maskI)) (rightHalf mx) (ix2 i j)
      = Ideal.exp2 (col st ⟨128 + j.val, by omega⟩ ⟨128 + i.val, by omega⟩ - mx (ix2 0 ⟨128 + j.val, by omega⟩)) := by
  rw [exp4_apply, put4_apply, quarterD_apply, rightHalf_apply]

/-- The weights of a diagonal block, as the multiplication takes them. -/
theorem joinDiag_exp (st : FVec Ideal S256x256 .f32) (mx : FVec Ideal S1x256 .f32) (i j : Fin 256) :
    joinDiag (exp4 (put4 (quarterA st maskI)) (leftHalf mx)) (exp4 (put4 (quarterB st)) (rightHalf mx))
      (exp4 (put4 (quarterD st maskI)) (rightHalf mx)) (ix2 i j) = Ideal.exp2 (col st j i - mx (ix2 0 j)) := by
  have e : ∀ k : Fin 256, ¬ k.val < 128 → (⟨128 + (k.val - 128), by omega⟩ : Fin 256) = k :=
    fun k hk => Fin.ext (by show 128 + (k.val - 128) = k.val; omega)
  rw [joinDiag_apply]
  split
  · split
    · exact expA st mx _ _
    · rename_i hj
      rw [expB, e j hj]
  · rename_i hi
    split
    · rename_i hj
      rw [col, if_neg (by omega), EReal.bot_sub, exp2_bot]
    · rename_i hj
      rw [expD, e j hj, e i hi]

/-- The weighted values of a diagonal block. -/
theorem accD_apply (st : FVec Ideal S256x256 .f32) (mx : FVec Ideal S1x256 .f32) (v : Vec Ideal S128x256 .bf16) (d : Fin 128) (j : Fin 256) :
    accD mx (put4 (quarterA st maskI)) (put4 (quarterB st)) (put4 (quarterD st maskI)) v (ix2 d j)
      = ∑ i : Fin 256, v (ix2 d i) * Ideal.exp2 (col st j i - mx (ix2 0 j)) := by
  rw [accD, weighDiag, weigh_apply]
  exact Finset.sum_congr rfl fun i _ => by rw [joinDiag_exp]

/-- The column sums of the weights of a diagonal block. -/
theorem sumD_apply (st : FVec Ideal S256x256 .f32) (mx : FVec Ideal S1x256 .f32) (j : Fin 256) :
    rowSum (sumD mx (put4 (quarterA st maskI)) (put4 (quarterB st)) (put4 (quarterD st maskI))) (ix2 0 j)
      = ∑ i : Fin 256, Ideal.exp2 (col st j i - mx (ix2 0 j)) := by
  rw [sumD, rowSum_foldDiag, sum_halves256]
  split
  · rename_i hj
    have h0 : (∑ x : Fin 128, Ideal.exp2 (col st j ⟨128 + x.val, by omega⟩ - mx (ix2 0 j))) = 0 :=
      Finset.sum_eq_zero fun x _ => by rw [col_lower st ⟨j.val, hj⟩ x, EReal.bot_sub, exp2_bot]
    rw [h0, add_zero]
    exact Finset.sum_congr rfl fun i _ => expA st mx i ⟨j.val, hj⟩
  · rename_i hj
    have e : (⟨128 + (j.val - 128), by omega⟩ : Fin 256) = j := Fin.ext (by show 128 + (j.val - 128) = j.val; omega)
    refine congrArg₂ (· + ·) (Finset.sum_congr rfl fun i _ => ?_) (Finset.sum_congr rfl fun i _ => ?_)
    · rw [expB, e]
    · rw [expD, e]

/-- The weighted values of a whole block. -/
theorem weighFull_apply (st : FVec Ideal S256x256 .f32) (mx : FVec Ideal S1x256 .f32) (v : Vec Ideal S128x256 .bf16) (d : Fin 128) (j : Fin 256) :
    weighFull v (exp1 (put1 st) mx) (ix2 d j) = ∑ i : Fin 256, v (ix2 d i) * Ideal.exp2 (st (ix2 i j) - mx (ix2 0 j)) := by
  rw [weighFull, weigh_apply]
  refine Finset.sum_congr rfl fun i _ => ?_
  have h : (truncf .bf16 (exp1 (put1 st) mx) bitsLt_bf16_f32 : FVec Ideal S256x256 .bf16) (ix2 i j) = exp1 (put1 st) mx (ix2 i j) := rfl
  rw [h, exp1_apply, put1_apply]

/-- The column sums of the weights of a whole block. -/
theorem sumFull_apply (st : FVec Ideal S256x256 .f32) (mx : FVec Ideal S1x256 .f32) (j : Fin 256) :
    rowSum (fold32 addf (exp1 (put1 st) mx)) (ix2 0 j) = ∑ i : Fin 256, Ideal.exp2 (st (ix2 i j) - mx (ix2 0 j)) := by
  rw [rowSum_fold32]
  exact Finset.sum_congr rfl fun i _ => by rw [exp1_apply, put1_apply]

/-- A sum of two blocks, read at a place. -/
theorem addf_at (x y : FVec Ideal S128x256 .f32) (d : Fin 128) (j : Fin 256) : addf x y (ix2 d j) = x (ix2 d j) + y (ix2 d j) := rfl

variable (vs os : EReal) (s2 v : Fin 1024 → EReal) (d : Fin 128) (j : Fin 256)

/-- A block of masked scores adds nothing to the weighed sum. -/
theorem dead_sum (M : EReal) {kb : Fin 4} (h : ∀ i, s2 (place kb i) = ⊥) :
    (∑ i, Ideal.exp2 (s2 (place kb i) - M) * v (place kb i)) = 0 ∧ (∑ i, Ideal.exp2 (s2 (place kb i) - M)) = 0
      ∧ (Finset.univ.sup fun i => s2 (place kb i)) = ⊥ :=
  ⟨Finset.sum_eq_zero fun i _ => by rw [h, EReal.bot_sub, exp2_bot, zero_mul],
    Finset.sum_eq_zero fun i _ => by rw [h, EReal.bot_sub, exp2_bot],
    (Finset.sup_eq_bot_iff _ _).mpr fun i _ => h i⟩

/-- The tile of the first 256 queries, which see one block of keys. -/
theorem tile0_apply (st0 : FVec Ideal S256x256 .f32) (v0 : Vec Ideal S128x256 .bf16)
    (h0 : ∀ i, col st0 j i = s2 (place 0 i)) (h1 : ∀ i, s2 (place 1 i) = ⊥) (h2 : ∀ i, s2 (place 2 i) = ⊥) (h3 : ∀ i, s2 (place 3 i) = ⊥)
    (w0 : ∀ i, v0 (ix2 d i) = v (place 0 i)) :
    tile0 (Ideal.div vs os) (max0 st0 maskI) (put4 (quarterA st0 maskI)) (put4 (quarterB st0)) (put4 (quarterD st0 maskI)) v0 (ix2 d j)
      = kerRow s2 v vs os := by
  have hm : max0 st0 maskI (ix2 0 j) = Finset.univ.sup s2 := by
    rw [max0, rowMax_diag, sup_blocks, (dead_sum s2 v 0 h1).2.2, (dead_sum s2 v 0 h2).2.2, (dead_sum s2 v 0 h3).2.2]
    simp only [max_bot_right, ← h0]
  rw [tile0, finish_apply, accD_apply, sumD_apply, hm, kerRow, sum_blocks, sum_blocks]
  rw [(dead_sum s2 v _ h1).1, (dead_sum s2 v _ h2).1, (dead_sum s2 v _ h3).1, (dead_sum s2 v _ h1).2.1, (dead_sum s2 v _ h2).2.1,
    (dead_sum s2 v _ h3).2.1]
  simp only [h0, w0, add_zero, mul_comm (v _)]

/-- The tile of the second 256 queries, which see two blocks of keys. -/
theorem tile1_apply (st0 st1 : FVec Ideal S256x256 .f32) (v0 v1 : Vec Ideal S128x256 .bf16)
    (h0 : ∀ i, st0 (ix2 i j) = s2 (place 0 i)) (h1 : ∀ i, col st1 j i = s2 (place 1 i)) (h2 : ∀ i, s2 (place 2 i) = ⊥) (h3 : ∀ i, s2 (place 3 i) = ⊥)
    (w0 : ∀ i, v0 (ix2 d i) = v (place 0 i)) (w1 : ∀ i, v1 (ix2 d i) = v (place 1 i)) :
    tile1 (Ideal.div vs os) (max1 st0 st1 maskI) (put1 st0) (put4 (quarterA st1 maskI)) (put4 (quarterB st1)) (put4 (quarterD st1 maskI)) v0 v1 (ix2 d j)
      = kerRow s2 v vs os := by
  have hm : max1 st0 st1 maskI (ix2 0 j) = Finset.univ.sup s2 := by
    rw [max1, rowMax_max, rowMax_fold32, rowMax_diag, sup_blocks, (dead_sum s2 v 0 h2).2.2, (dead_sum s2 v 0 h3).2.2]
    simp only [max_bot_right, ← h0, ← h1]
  rw [tile1, finish_apply, addf_at, rowSum_add, weighFull_apply, sumFull_apply, accD_apply, sumD_apply, hm, kerRow, sum_blocks, sum_blocks]
  rw [(dead_sum s2 v _ h2).1, (dead_sum s2 v _ h3).1, (dead_sum s2 v _ h2).2.1, (dead_sum s2 v _ h3).2.1]
  simp only [h0, h1, w0, w1, add_zero, mul_comm (v _)]

/-- The tile of the third 256 queries, which see three blocks of keys. -/
theorem tile2_apply (st0 st1 st2 : FVec Ideal S256x256 .f32) (v0 v1 v2 : Vec Ideal S128x256 .bf16)
    (h0 : ∀ i, st0 (ix2 i j) = s2 (place 0 i)) (h1 : ∀ i, st1 (ix2 i j) = s2 (place 1 i)) (h2 : ∀ i, col st2 j i = s2 (place 2 i)) (h3 : ∀ i, s2 (place 3 i) = ⊥)
    (w0 : ∀ i, v0 (ix2 d i) = v (place 0 i)) (w1 : ∀ i, v1 (ix2 d i) = v (place 1 i)) (w2 : ∀ i, v2 (ix2 d i) = v (place 2 i)) :
    tile2 (Ideal.div vs os) (max2 st0 st1 st2 maskI) (put1 st0) (put1 st1) (put4 (quarterA st2 maskI)) (put4 (quarterB st2)) (put4 (quarterD st2 maskI)) v0 v1 v2 (ix2 d j)
      = kerRow s2 v vs os := by
  have hm : max2 st0 st1 st2 maskI (ix2 0 j) = Finset.univ.sup s2 := by
    rw [max2, rowMax_max, rowMax_max, rowMax_fold32, rowMax_fold32, rowMax_diag, sup_blocks, (dead_sum s2 v 0 h3).2.2]
    simp only [max_bot_right, ← h0, ← h1, ← h2]
  rw [tile2, finish_apply, addf_at, addf_at, rowSum_add, rowSum_add, weighFull_apply, sumFull_apply, weighFull_apply, sumFull_apply, accD_apply, sumD_apply, hm, kerRow, sum_blocks, sum_blocks]
  rw [(dead_sum s2 v _ h3).1, (dead_sum s2 v _ h3).2.1]
  simp only [h0, h1, h2, w0, w1, w2, add_zero, mul_comm (v _)]

/-- The tile of the last 256 queries, which see all four blocks of keys. -/
theorem tile3_apply (st0 st1 st2 st3 : FVec Ideal S256x256 .f32) (v0 v1 v2 v3 : Vec Ideal S128x256 .bf16)
    (h0 : ∀ i, st0 (ix2 i j) = s2 (place 0 i)) (h1 : ∀ i, st1 (ix2 i j) = s2 (place 1 i)) (h2 : ∀ i, st2 (ix2 i j) = s2 (place 2 i)) (h3 : ∀ i, col st3 j i = s2 (place 3 i))
    (w0 : ∀ i, v0 (ix2 d i) = v (place 0 i)) (w1 : ∀ i, v1 (ix2 d i) = v (place 1 i)) (w2 : ∀ i, v2 (ix2 d i) = v (place 2 i)) (w3 : ∀ i, v3 (ix2 d i) = v (place 3 i)) :
    tile3 (Ideal.div vs os) (max3 st0 st1 st2 st3 maskI) (put1 st0) (put1 st1) (put1 st2) (put4 (quarterA st3 maskI)) (put4 (quarterB st3)) (put4 (quarterD st3 maskI)) v0 v1 v2 v3 (ix2 d j)
      = kerRow s2 v vs os := by
  have hm : max3 st0 st1 st2 st3 maskI (ix2 0 j) = Finset.univ.sup s2 := by
    rw [max3, rowMax_max, rowMax_max, rowMax_max, rowMax_fold32, rowMax_fold32, rowMax_fold32, rowMax_diag, sup_blocks]
    simp only [← h0, ← h1, ← h2, ← h3]
  rw [tile3, finish_apply, addf_at, addf_at, addf_at, rowSum_add, rowSum_add, rowSum_add, weighFull_apply, sumFull_apply, weighFull_apply, sumFull_apply, weighFull_apply, sumFull_apply, accD_apply, sumD_apply, hm, kerRow, sum_blocks, sum_blocks]
  simp only [h0, h1, h2, h3, w0, w1, w2, w3, mul_comm (v _)]

end Cert.KernelIdeal.Unit
-- ==== Proof.Kernel.ReadBack.lean ====
/- What a grid point reads back from scratch is what it put there: each tile's result as a function of the scores
   themselves, and each block of the values as rows of the loaded values. -/
module

public import proofs.«01_k».proof.Proof.Kernel.Point
public import proofs.«01_k».proof.Proof.Kernel.TileValue
public import Idealize.ShloMosaic.Lib.Pipeline.ReadBack
public import Idealize.ShloMosaic.Lib.Pointwise
public import Idealize.ShloMosaic.Lib.Ring
public import Idealize.ShloMosaic.Lib.Tactic

@[expose] public section

set_option maxRecDepth 16384

noncomputable section

namespace Cert.KernelIdeal.Point

open Idealize.ShloMosaic Idealize.SL.Sem
open Cert.KernelIdeal.Gen Cert.KernelIdeal.Unit Cert.RowMath

section
variable {F : FTy → Type} [FloatOps F] [Named F]
variable (L : Loads F) (V1 : View sig .tc .vmem S128x1024 .bf16) (V2 : View sig .tc .vmem S2x1024x256 .f32)
variable (g : Fin 5) (prev : List (View.Piece (Elt F) S2x1024x256 .f32))

/-- The first tile reads back the three quarters it put. -/
theorem t0_eq : t0 L V1 V2 g prev = tile0 (gain L g) (max0 (st L g 0 0) L.bias)
    (put4 (quarterA (st L g 0 0) L.bias)) (put4 (quarterB (st L g 0 0))) (put4 (quarterD (st L g 0 0) L.bias)) (vt0 L V1) := by
  rw [t0, scores0]
  simp (disch := decide) only [View.readCov_skip, View.readCov_cons_toLoadRect]

/-- The second tile reads back its full block and its three quarters. -/
theorem t1_eq : t1 L V1 V2 g prev = tile1 (gain L g) (max1 (st L g 1 0) (st L g 1 1) L.bias) (put1 (st L g 1 0))
    (put4 (quarterA (st L g 1 1) L.bias)) (put4 (quarterB (st L g 1 1))) (put4 (quarterD (st L g 1 1) L.bias)) (vt0 L V1) (vt1 L V1) := by
  rw [t1, scores1]
  simp (disch := decide) only [View.readCov_skip, View.readCov_cons_toLoadRect]

/-- The third tile reads back its two full blocks and its three quarters. -/
theorem t2_eq : t2 L V1 V2 g prev = tile2 (gain L g) (max2 (st L g 2 0) (st L g 2 1) (st L g 2 2) L.bias)
    (put1 (st L g 2 0)) (put1 (st L g 2 1))
    (put4 (quarterA (st L g 2 2) L.bias)) (put4 (quarterB (st L g 2 2))) (put4 (quarterD (st L g 2 2) L.bias))
    (vt0 L V1) (vt1 L V1) (vt2 L V1) := by
  rw [t2, scores2]
  simp (disch := decide) only [View.readCov_skip, View.readCov_cons_toLoadRect]

/-- The fourth tile reads back its three full blocks and its three quarters. -/
theorem t3_eq : t3 L V1 V2 g prev = tile3 (gain L g) (max3 (st L g 3 0) (st L g 3 1) (st L g 3 2) (st L g 3 3) L.bias)
    (put1 (st L g 3 0)) (put1 (st L g 3 1)) (put1 (st L g 3 2))
    (put4 (quarterA (st L g 3 3) L.bias)) (put4 (quarterB (st L g 3 3))) (put4 (quarterD (st L g 3 3) L.bias))
    (vt0 L V1) (vt1 L V1) (vt2 L V1) (vt3 L V1) := by
  rw [t3, scores3]
  simp (disch := decide) only [View.readCov_skip, View.readCov_cons_toLoadRect]

end

variable (L : Loads Ideal) (V1 : View sig .tc .vmem S128x1024 .bf16)

/-- A block of values lies inside the scratch of transposed values. -/
theorem vRow_inb (n : Fin 8) : ∀ a, (![0, 128 * n.val] : Fin 2 → ℕ) a + S128x128.size a ≤ S128x1024.size a := by
  revert n; decide

/-- One block of values, as it lies in scratch. -/
theorem vPiece (w : Fin 1024 → Fin 128 → EReal) (h : ∀ n i d, L.v n (ix3 0 i d) = w ⟨128 * n.val + i.val, by omega⟩ d) (n : Fin 8)
    (x : S128x128.Idx) :
    putV (L.v n) x = (fun y : S128x1024.Idx => w (y 1) (y 0)) ((Rect.unit (s := S128x1024) ![0, 128 * n.val] S128x128.size (vRow_inb n)).emb x) := by
  obtain ⟨d, i, rfl⟩ : ∃ (d i : Fin 128), x = ix2 d i := ⟨x 0, x 1, eq_ix2 x⟩
  rw [putV_apply, h]
  refine congrArg₂ w (Fin.ext ?_) (Fin.ext ?_)
  · show 128 * n.val + i.val = 128 * n.val + 1 * i.val; omega
  · show d.val = 0 + 1 * d.val; omega

/-- What the scratch of values holds: a dimension down, a key across. -/
theorem vPieces_canon (w : Fin 1024 → Fin 128 → EReal) (h : ∀ n i d, L.v n (ix3 0 i d) = w ⟨128 * n.val + i.val, by omega⟩ d)
    (y : S128x1024.Idx) : View.canon (vPieces L) y = w (y 1) (y 0) := by
  have hp : View.PiecesOf (Val := Elt Ideal) (s := S128x1024) (e := .bf16) (fun y => w (y 1) (y 0)) (vPieces L) :=
    ⟨vPiece L w h 7, vPiece L w h 6, vPiece L w h 5, vPiece L w h 4, vPiece L w h 3, vPiece L w h 2, vPiece L w h 1, vPiece L w h 0, trivial⟩
  exact View.canon_apply_of_pieces (fun y : S128x1024.Idx => w (y 1) (y 0)) (vPieces L) hp.mem y
    (View.cover_of_tiledL (vPieces L) S128x128.size (by sl_kernel_rfl) y)

section
variable (w : Fin 1024 → Fin 128 → EReal) (h : ∀ n i d, L.v n (ix3 0 i d) = w ⟨128 * n.val + i.val, by omega⟩ d) (d : Fin 128) (i : Fin 256)
include h

/-- Block 0 of the transposed values, read back. -/
theorem vt0_apply : vt0 L V1 (ix2 d i) = w (place 0 i) d := by
  rw [vt0, View.readCov_eq_canon']
  refine (vPieces_canon L w h _).trans (congrArg₂ w (Fin.ext ?_) (Fin.ext ?_))
  · show 0 + 1 * i.val = 0 * 256 + i.val; omega
  · show 0 + 1 * d.val = d.val; omega

/-- Block 1 of the transposed values, read back. -/
theorem vt1_apply : vt1 L V1 (ix2 d i) = w (place 1 i) d := by
  rw [vt1, View.readCov_eq_canon']
  refine (vPieces_canon L w h _).trans (congrArg₂ w (Fin.ext ?_) (Fin.ext ?_))
  · show 256 + 1 * i.val = 1 * 256 + i.val; omega
  · show 0 + 1 * d.val = d.val; omega

/-- Block 2 of the transposed values, read back. -/
theorem vt2_apply : vt2 L V1 (ix2 d i) = w (place 2 i) d := by
  rw [vt2, View.readCov_eq_canon']
  refine (vPieces_canon L w h _).trans (congrArg₂ w (Fin.ext ?_) (Fin.ext ?_))
  · show 512 + 1 * i.val = 2 * 256 + i.val; omega
  · show 0 + 1 * d.val = d.val; omega

/-- Block 3 of the transposed values, read back. -/
theorem vt3_apply : vt3 L V1 (ix2 d i) = w (place 3 i) d := by
  rw [vt3, View.readCov_eq_canon']
  refine (vPieces_canon L w h _).trans (congrArg₂ w (Fin.ext ?_) (Fin.ext ?_))
  · show 768 + 1 * i.val = 3 * 256 + i.val; omega
  · show 0 + 1 * d.val = d.val; omega

end

end Cert.KernelIdeal.Point

end
-- ==== Proof.Kernel.AmaxValue.lean ====
/- What the absolute maxima's steps compute over exact numbers. -/
module

public import proofs.«01_k».proof.Proof.Kernel.UnitValue
public import proofs.«01_k».proof.Proof.RowMath

@[expose] public section

set_option maxRecDepth 16384

noncomputable section

namespace Cert.KernelIdeal.Unit

open Idealize.ShloMosaic Idealize.SL.Sem
open Cert.KernelIdeal.Gen Cert.RowMath

/-- A head's absolute maximum reaches its own lane and no other. -/
theorem amaxStep_apply (amax : FVec Ideal S1x30 .f32) (h : BitVec 32) (tmax : FVec Ideal S8x128 .f32) (os : Ideal .f32) (j : Fin 30) :
    amaxStep amax h tmax os (ix2 0 j) = if BitVec.ofNat 32 j.val = h then
      max (amax (ix2 0 j)) ((Finset.univ.sup fun l : Fin 128 => Finset.univ.sup fun r : Fin 8 => tmax (ix2 r l)) * os) else amax (ix2 0 j) := by
  pointwise [amaxStep, lane]
  rw [Spec.ofBits_neg_inf]
  by_cases e : BitVec.ofNat 32 j.val = h
  · rw [if_pos e]
    simp [Scalar.select, IntOp.cmpi, e]
    rfl
  · rw [if_neg e]
    have e' : (BitVec.ofNat 32 j.val == h) = false := by simpa using e
    simp [Scalar.select, IntOp.cmpi, e']

/-- The larger of the two halves of a row. -/
theorem halves_apply (x : FVec Ideal S8x256 .f32) (r : Fin 8) (l : Fin 128) :
    halves x (ix2 r l) = max (x (ix2 r ⟨l.val, by omega⟩)) (x (ix2 r ⟨128 + l.val, by omega⟩)) := by
  pointwise [halves]

/-- The absolute maximum over a tile joins the running one. -/
theorem absStep_sup (tm : FVec Ideal S8x128 .f32) (t : FVec Ideal S128x256 .f32) :
    (Finset.univ.sup fun l : Fin 128 => Finset.univ.sup fun r : Fin 8 => absStep tm t (ix2 r l))
      = max (Finset.univ.sup fun l : Fin 128 => Finset.univ.sup fun r : Fin 8 => tm (ix2 r l))
        (Finset.univ.sup fun j : Fin 256 => Finset.univ.sup fun d : Fin 128 => abs (t (ix2 d j))) := by
  have e : ∀ r l, absStep tm t (ix2 r l) = max (tm (ix2 r l)) (halves (foldT maximumf (absf t)) (ix2 r l)) := fun _ _ => rfl
  simp only [e, halves_apply, foldT_max]
  simp only [sup_max]
  refine congrArg₂ max rfl ?_
  have r : ∀ f : Fin 128 → EReal, (Finset.univ.sup fun r : Fin 8 => Finset.univ.sup fun k : Fin 16 => f ⟨8 * k.val + r.val, by omega⟩) = Finset.univ.sup f := sup_rows128
  rw [sup_halves256]
  exact congrArg₂ max (Finset.sup_congr rfl fun l _ => r fun d => abs (t (ix2 d ⟨l.val, by omega⟩)))
    (Finset.sup_congr rfl fun l _ => r fun d => abs (t (ix2 d ⟨128 + l.val, by omega⟩)))

/-- The running maxima of a head start at zero. -/
theorem absZero_apply (r : Fin 8) (l : Fin 128) : absZero (F := Ideal) (ix2 r l) = 0 := by
  pointwise [absZero]

end Cert.KernelIdeal.Unit

end
-- ==== Proof.Kernel.PointValue.lean ====
/- A grid point over exact numbers: what its tiles hold, the codes it stores and the absolute maxima it joins, in the
   words of the specification. -/
module

public import proofs.«01_k».proof.Proof.Kernel.ReadBack
public import proofs.«01_k».proof.Proof.Kernel.AmaxValue

@[expose] public section

set_option maxRecDepth 16384

noncomputable section

namespace Cert.KernelIdeal.Point

open Idealize.ShloMosaic Idealize.SL.Sem
open Cert.KernelIdeal.Gen Cert.KernelIdeal.Unit Cert.RowMath
open Cert.Spec (SX SK SH SG qlane klane)

/-- The loads of a point are the entries of the argument arrays for batch `b` and key head `kv`. -/
structure Loads.Of (L : Loads Ideal) (x : SX.Idx → EReal) (k v : SK.Idx → EReal) (qs : SH.Idx → EReal) (ks vs : SG.Idx → EReal)
    (os : SH.Idx → EReal) (b : Fin 2) (kv : Fin 6) : Prop where
  q : ∀ g qb (j : Fin 256) (d : Fin 128), L.q g qb (ix3 0 j d) = x (ix3 b (place qb j) (qlane kv g d))
  k : ∀ kb (i : Fin 256) (d : Fin 128), L.k kb (ix3 0 i d) = k (ix3 b (place kb i) (klane kv d))
  v : ∀ n (i : Fin 128) (d : Fin 128), L.v n (ix3 0 i d) = v (ix3 b ⟨128 * n.val + i.val, by omega⟩ (klane kv d))
  qs : ∀ g, L.qs g = qs (ix1 (Spec.head kv g))
  ks : L.ks = ks (ix1 kv)
  vs : L.vs = vs (ix1 kv)
  os : ∀ g, L.os g = os (ix1 (Spec.head kv g))
  bias : L.bias = maskI
  head : ∀ g, L.head g = BitVec.ofNat 32 (kv.val * 5 + g.val)

variable {L : Loads Ideal} {x : SX.Idx → EReal} {k v : SK.Idx → EReal} {qs : SH.Idx → EReal} {ks vs : SG.Idx → EReal}
  {os : SH.Idx → EReal} {b : Fin 2} {kv : Fin 6} (H : L.Of x k v qs ks vs os b kv)
  (V1 : View sig .tc .vmem S128x1024 .bf16) (V2 : View sig .tc .vmem S2x1024x256 .f32)
include H

/-- A head's factor on the scores is the specification's, in base two. -/
theorem c_eq (g : Fin 5) : c L g = Spec.gain qs ks kv g * (log2e : EReal) := by
  have e : Named.named (F := Ideal) κ "log2e_inv_sqrt_d" (φ := .f32) 0x3E0293EE#32 = (((Real.log 2)⁻¹ * (Real.sqrt 128)⁻¹ : ℝ) : EReal) :=
    IdealRules.named_const.ideal_named_scalar _ _ _ _ rfl
  show L.qs g * L.ks * Named.named (F := Ideal) κ "log2e_inv_sqrt_d" (φ := .f32) 0x3E0293EE#32 = _
  rw [e, H.qs, H.ks, Spec.gain, EReal.coe_mul, mul_assoc (_ * _) _ (log2e : EReal), mul_comm (((Real.sqrt 128)⁻¹ : ℝ) : EReal)]
  rfl

/-- The scores, in base two. -/
theorem st_apply (g : Fin 5) (qb kb : Fin 4) (i j : Fin 256) :
    st L g qb kb (ix2 i j) = Spec.dot x k b kv g (place qb j) (place kb i) * Spec.gain qs ks kv g * (log2e : EReal) := by
  rw [st, score_apply, c_eq H, Spec.dot, mul_assoc]
  refine congrArg₂ (· * ·) (Finset.sum_congr rfl fun d _ => ?_) rfl
  rw [H.q, H.k, mul_comm]

/-- The scores a query row meets, in base two. -/
def row (x : SX.Idx → EReal) (k : SK.Idx → EReal) (qs : SH.Idx → EReal) (ks : SG.Idx → EReal) (b : Fin 2) (kv : Fin 6) (g : Fin 5) (q key : Fin 1024) : EReal :=
  Spec.score x k qs ks b kv g q key * (log2e : EReal)

/-- A block of keys before the queries' block holds the scores. -/
theorem st_full (g : Fin 5) (qb kb : Fin 4) (h : kb.val < qb.val) (j i : Fin 256) :
    st L g qb kb (ix2 i j) = row x k qs ks b kv g (place qb j) (place kb i) := by
  rw [st_apply H, row, Spec.score, if_pos (by show kb.val * 256 + i.val ≤ qb.val * 256 + j.val; omega)]

/-- The block of keys at the queries' block holds the scores once masked. -/
theorem st_diag (g : Fin 5) (qb : Fin 4) (j i : Fin 256) :
    col (st L g qb qb) j i = row x k qs ks b kv g (place qb j) (place qb i) := by
  rw [col, st_apply H, row, Spec.score]
  by_cases h : i.val ≤ j.val
  · rw [if_pos h, if_pos (by show qb.val * 256 + i.val ≤ qb.val * 256 + j.val; omega)]
  · rw [if_neg h, if_neg (by show ¬ qb.val * 256 + i.val ≤ qb.val * 256 + j.val; omega), EReal.bot_mul_coe_of_pos log2e_pos]

omit H in
/-- A block of keys after the queries' block is masked whole. -/
theorem row_dead (g : Fin 5) (qb kb : Fin 4) (h : qb.val < kb.val) (j i : Fin 256) :
    row x k qs ks b kv g (place qb j) (place kb i) = ⊥ := by
  rw [row, Spec.score, if_neg (by show ¬ kb.val * 256 + i.val ≤ qb.val * 256 + j.val; omega), EReal.bot_mul_coe_of_pos log2e_pos]

omit H in
/-- The kernel's row over base-two scores is the specification's output over the output scale. -/
theorem row_eq (g : Fin 5) {r : ℝ} (hr : 0 < r) (ho : os (ix1 (Spec.head kv g)) = (r : EReal)) (q : Fin 1024) (d : Fin 128) :
    kerRow (row x k qs ks b kv g q) (fun key => v (ix3 b key (klane kv d))) (vs (ix1 kv)) (os (ix1 (Spec.head kv g)))
      = Ideal.div (Spec.out x k v qs ks vs b kv g q d) (os (ix1 (Spec.head kv g))) := by
  rw [ho]; exact kerRow_eq _ _ _ hr

/-- A head's factor on the result. -/
theorem gain_eq (g : Fin 5) : gain L g = Ideal.div (vs (ix1 kv)) (os (ix1 (Spec.head kv g))) := by
  show Ideal.div L.vs (L.os g) = _
  rw [H.vs, H.os]

/-- Tile 0 of a head at one grid point is a block of attention rows over the output scale. -/
theorem t0_apply (g : Fin 5) (prev : List (View.Piece (Elt Ideal) S2x1024x256 .f32)) (d : Fin 128) (j : Fin 256) :
    t0 L V1 V2 g prev (ix2 d j) = kerRow (row x k qs ks b kv g (place 0 j)) (fun key => v (ix3 b key (klane kv d))) (vs (ix1 kv))
      (os (ix1 (Spec.head kv g))) := by
  rw [t0_eq, gain_eq H, H.bias]
  exact tile0_apply (vs (ix1 kv)) (os (ix1 (Spec.head kv g))) (row x k qs ks b kv g (place 0 j)) (fun key => v (ix3 b key (klane kv d))) d j
    _ _ (st_diag H g 0 j) (row_dead g 0 1 (by decide) j) (row_dead g 0 2 (by decide) j) (row_dead g 0 3 (by decide) j)
    (fun i => vt0_apply L V1 (fun key d => v (ix3 b key (klane kv d))) H.v d i)

/-- Tile 1 of a head at one grid point is a block of attention rows over the output scale. -/
theorem t1_apply (g : Fin 5) (prev : List (View.Piece (Elt Ideal) S2x1024x256 .f32)) (d : Fin 128) (j : Fin 256) :
    t1 L V1 V2 g prev (ix2 d j) = kerRow (row x k qs ks b kv g (place 1 j)) (fun key => v (ix3 b key (klane kv d))) (vs (ix1 kv))
      (os (ix1 (Spec.head kv g))) := by
  rw [t1_eq, gain_eq H, H.bias]
  exact tile1_apply (vs (ix1 kv)) (os (ix1 (Spec.head kv g))) (row x k qs ks b kv g (place 1 j)) (fun key => v (ix3 b key (klane kv d))) d j
    _ _ _ _ (st_full H g 1 0 (by decide) j) (st_diag H g 1 j) (row_dead g 1 2 (by decide) j) (row_dead g 1 3 (by decide) j)
    (fun i => vt0_apply L V1 (fun key d => v (ix3 b key (klane kv d))) H.v d i) (fun i => vt1_apply L V1 (fun key d => v (ix3 b key (klane kv d))) H.v d i)

/-- Tile 2 of a head at one grid point is a block of attention rows over the output scale. -/
theorem t2_apply (g : Fin 5) (prev : List (View.Piece (Elt Ideal) S2x1024x256 .f32)) (d : Fin 128) (j : Fin 256) :
    t2 L V1 V2 g prev (ix2 d j) = kerRow (row x k qs ks b kv g (place 2 j)) (fun key => v (ix3 b key (klane kv d))) (vs (ix1 kv))
      (os (ix1 (Spec.head kv g))) := by
  rw [t2_eq, gain_eq H, H.bias]
  exact tile2_apply (vs (ix1 kv)) (os (ix1 (Spec.head kv g))) (row x k qs ks b kv g (place 2 j)) (fun key => v (ix3 b key (klane kv d))) d j
    _ _ _ _ _ _ (st_full H g 2 0 (by decide) j) (st_full H g 2 1 (by decide) j) (st_diag H g 2 j) (row_dead g 2 3 (by decide) j)
    (fun i => vt0_apply L V1 (fun key d => v (ix3 b key (klane kv d))) H.v d i) (fun i => vt1_apply L V1 (fun key d => v (ix3 b key (klane kv d))) H.v d i) (fun i => vt2_apply L V1 (fun key d => v (ix3 b key (klane kv d))) H.v d i)

/-- Tile 3 of a head at one grid point is a block of attention rows over the output scale. -/
theorem t3_apply (g : Fin 5) (prev : List (View.Piece (Elt Ideal) S2x1024x256 .f32)) (d : Fin 128) (j : Fin 256) :
    t3 L V1 V2 g prev (ix2 d j) = kerRow (row x k qs ks b kv g (place 3 j)) (fun key => v (ix3 b key (klane kv d))) (vs (ix1 kv))
      (os (ix1 (Spec.head kv g))) := by
  rw [t3_eq, gain_eq H, H.bias]
  exact tile3_apply (vs (ix1 kv)) (os (ix1 (Spec.head kv g))) (row x k qs ks b kv g (place 3 j)) (fun key => v (ix3 b key (klane kv d))) d j
    _ _ _ _ _ _ _ _ (st_full H g 3 0 (by decide) j) (st_full H g 3 1 (by decide) j) (st_full H g 3 2 (by decide) j) (st_diag H g 3 j)
    (fun i => vt0_apply L V1 (fun key d => v (ix3 b key (klane kv d))) H.v d i) (fun i => vt1_apply L V1 (fun key d => v (ix3 b key (klane kv d))) H.v d i) (fun i => vt2_apply L V1 (fun key d => v (ix3 b key (klane kv d))) H.v d i) (fun i => vt3_apply L V1 (fun key d => v (ix3 b key (klane kv d))) H.v d i)

/-- A tile's result is the specification's output over the output scale. -/
theorem t_apply (g : Fin 5) {r : ℝ} (hr : 0 < r) (ho : os (ix1 (Spec.head kv g)) = (r : EReal)) (qb : Fin 4) (d : Fin 128) (j : Fin 256) :
    t L V1 V2 g qb (ix2 d j) = Ideal.div (Spec.out x k v qs ks vs b kv g (place qb j) d) (os (ix1 (Spec.head kv g))) := by
  rw [← row_eq g hr ho]
  have hq : qb = 0 ∨ qb = 1 ∨ qb = 2 ∨ qb = 3 := by revert qb; decide
  rcases hq with h | h | h | h
  · rw [h]; exact t0_apply H V1 V2 g _ d j
  · rw [h]; exact t1_apply H V1 V2 g _ d j
  · rw [h]; exact t2_apply H V1 V2 g _ d j
  · rw [h]; exact t3_apply H V1 V2 g _ d j

end Cert.KernelIdeal.Point

end
-- ==== Proof.Kernel.LoadsValue.lean ====
/- What a grid point loads, in the words of the specification, given that its blocks are pieces of the arguments. -/
module

public import proofs.«01_k».proof.Proof.Kernel.Loads
public import proofs.«01_k».proof.Proof.Kernel.PointValue
public import Idealize.ShloMosaic.Lib.WholeRead

@[expose] public section

set_option maxRecDepth 16384

noncomputable section

namespace Cert.KernelIdeal.Point

open Idealize.ShloMosaic Idealize.ShloMosaic.TcCoe Idealize.ShloMosaic.Tactic Idealize.SL.Sem
open Cert.KernelIdeal.Gen Cert.KernelIdeal.Unit Cert.RowMath
open Cert.Spec (SX SK SH SG qlane klane)

/-- A head's number, as the kernel computes it. -/
theorem head_word : ∀ (a : Fin 6) (g : Fin 5), Scalar.addi (Scalar.muli (BitVec.ofNat 32 a.val) 5#32) (BitVec.ofNat 32 g.val)
    = BitVec.ofNat 32 (a.val * 5 + g.val) := by decide

/-- The loads are the arguments' entries when the blocks are. -/
theorem loads_of (x : SX.Idx → EReal) (k v : SK.Idx → EReal) (qs : SH.Idx → EReal) (ks vs : SG.Idx → EReal)
    (os : SH.Idx → EReal) (b : Fin 2) (kv : Fin 6) (i : grid0.Coords) (arg2 : Memref sig .tc .smem S30 .f32) (harg2 : arg2.IsWhole) (arg3 : Memref sig .tc .smem S6 .f32) (harg3 : arg3.IsWhole) (arg4 : Memref sig .tc .smem S6 .f32) (harg4 : arg4.IsWhole) (arg5 : Memref sig .tc .smem S30 .f32) (harg5 : arg5.IsWhole) (arg6 : Memref sig .tc .vmem S1x1024x640 .fp8e4m3) (harg6 : arg6.IsWhole) (arg7 : Memref sig .tc .vmem S1x1024x128 .fp8e4m3) (harg7 : arg7.IsWhole) (arg8 : Memref sig .tc .vmem S1x1024x128 .fp8e4m3) (harg8 : arg8.IsWhole)
    (x0 : Vec Ideal S30 .f32) (x1 x2 : Vec Ideal S6 .f32) (x3 : Vec Ideal S30 .f32) (x4 : Vec Ideal S1x1024x640 .fp8e4m3)
    (x5 x6 : Vec Ideal S1x1024x128 .fp8e4m3) (amax : Vec Ideal S1x30 .f32) (hi : (i 0).val = kv.val)
    (h0 : x0 = qs) (h1 : x1 = ks) (h2 : x2 = vs) (h3 : x3 = os)
    (h4 : ∀ (q : Fin 1024) (l : Fin 640), x4 (ix3 0 q l) = x (ix3 b q ⟨kv.val * 640 + l.val, by omega⟩))
    (h5 : ∀ (q : Fin 1024) (d : Fin 128), x5 (ix3 0 q d) = k (ix3 b q (klane kv d)))
    (h6 : ∀ (q : Fin 1024) (d : Fin 128), x6 (ix3 0 q d) = v (ix3 b q (klane kv d))) :
    (loads i arg2 harg2 arg3 harg3 arg4 harg4 arg5 harg5 arg6 harg6 arg7 harg7 arg8 harg8 x0 x1 x2 x3 x4 x5 x6 maskI amax).Of
      x k v qs ks vs os b kv where
  q g qb j d := by
    refine (harg6.readAt_unread x4 _ _).trans ((congrArg x4 (?_ : _ = ix3 0 (place qb j) ⟨g.val * 128 + d.val, by omega⟩)).trans ((h4 _ _).trans
      (congrArg (fun l => x (ix3 b (place qb j) l)) (Fin.ext ?_))))
    · funext a
      apply Fin.ext
      match a with
      | ⟨0, _⟩ => rfl
      | ⟨1, _⟩ => show 256 * qb.val + 1 * j.val = qb.val * 256 + j.val; omega
      | ⟨2, _⟩ => show 128 * g.val + 1 * d.val = g.val * 128 + d.val; omega
    · show kv.val * 640 + (g.val * 128 + d.val) = kv.val * 640 + g.val * 128 + d.val; omega
  k kb j d := by
    refine (harg7.readAt_unread x5 _ _).trans ((congrArg x5 (?_ : _ = ix3 0 (place kb j) d)).trans (h5 _ _))
    funext a
    apply Fin.ext
    match a with
    | ⟨0, _⟩ => rfl
    | ⟨1, _⟩ => show 256 * kb.val + 1 * j.val = kb.val * 256 + j.val; omega
    | ⟨2, _⟩ => show 0 + 1 * d.val = d.val; omega
  v n j d := by
    refine (harg8.readAt_unread x6 _ _).trans ((congrArg x6 (?_ : _ = ix3 0 ⟨128 * n.val + j.val, by omega⟩ d)).trans (h6 _ _))
    funext a
    apply Fin.ext
    match a with
    | ⟨0, _⟩ => rfl
    | ⟨1, _⟩ => show 128 * n.val + 1 * j.val = 128 * n.val + j.val; omega
    | ⟨2, _⟩ => show 0 + 1 * d.val = d.val; omega
  qs g := by
    refine (harg2.readAt_unread x0 _ _).trans (h0 ▸ congrArg x0 (?_ : _ = ix1 (Spec.head kv g)))
    funext a
    apply Fin.ext
    match a with
    | ⟨0, _⟩ =>
      show k0_off1 i (BitVec.ofNat 32 g.val) 0 + 1 * 0 = kv.val * 5 + g.val
      rw [k0_off1_eq]
      show 5 * (i 0).val + g.val + 1 * 0 = kv.val * 5 + g.val
      omega
  ks := by
    refine (harg3.readAt_unread x1 _ _).trans (h1 ▸ congrArg x1 (?_ : _ = ix1 kv))
    funext a
    apply Fin.ext
    match a with
    | ⟨0, _⟩ =>
      show k0_off2 i 0 + 1 * 0 = kv.val
      rw [k0_off2_eq]
      show (i 0).val + 1 * 0 = kv.val
      omega
  vs := by
    refine (harg4.readAt_unread x2 _ _).trans (h2 ▸ congrArg x2 (?_ : _ = ix1 kv))
    funext a
    apply Fin.ext
    match a with
    | ⟨0, _⟩ =>
      show k0_off2 i 0 + 1 * 0 = kv.val
      rw [k0_off2_eq]
      show (i 0).val + 1 * 0 = kv.val
      omega
  os g := by
    refine (harg5.readAt_unread x3 _ _).trans (h3 ▸ congrArg x3 (?_ : _ = ix1 (Spec.head kv g)))
    funext a
    apply Fin.ext
    match a with
    | ⟨0, _⟩ =>
      show k0_off1 i (BitVec.ofNat 32 g.val) 0 + 1 * 0 = kv.val * 5 + g.val
      rw [k0_off1_eq]
      show 5 * (i 0).val + g.val + 1 * 0 = kv.val * 5 + g.val
      omega
  bias := rfl
  head g := by
    show Scalar.addi (Scalar.muli (BitVec.ofNat 32 (i 0).val) 5#32) (BitVec.ofNat 32 g.val) = _
    rw [hi]
    exact head_word kv g

end Cert.KernelIdeal.Point

end
-- ==== Proof.Kernel.PointOut.lean ====
/- What a grid point leaves over exact numbers: its block of codes and its lanes of absolute maxima. -/
module

public import proofs.«01_k».proof.Proof.Kernel.PointValue

@[expose] public section

set_option maxRecDepth 16384

noncomputable section

namespace Cert.KernelIdeal.Point

open Idealize.ShloMosaic Idealize.SL.Sem
open Cert.KernelIdeal.Gen Cert.KernelIdeal.Unit Cert.RowMath
open Cert.Spec (SX SK SH SG qlane klane)

/-- Lane `d` of a group's head `g` in a block of codes. -/
abbrev lane (g : Fin 5) (d : Fin 128) : Fin 640 := ⟨g.val * 128 + d.val, by omega⟩

section
variable {L : Loads Ideal} {V1 : View sig .tc .vmem S128x1024 .bf16} {V2 : View sig .tc .vmem S2x1024x256 .f32}
  {W : Fin 1024 → Fin 640 → EReal}
  (hW : ∀ (g : Fin 5) (qb : Fin 4) (d : Fin 128) (j : Fin 256),
    Spec.clip (t L V1 V2 g qb (ix2 d j)) = W (place qb j) ⟨g.val * 128 + d.val, by omega⟩)

/-- The first 128 queries of a tile lie inside the block of codes. -/
theorem code_inb0 (g : Fin 5) (qb : Fin 4) : ∀ a, (![0, 256 * qb.val, 128 * g.val] : Fin 3 → ℕ) a + S1x128x128.size a ≤ S1x1024x640.size a := by
  revert g qb; decide

/-- The last 128 queries of a tile lie inside the block of codes. -/
theorem code_inb1 (g : Fin 5) (qb : Fin 4) : ∀ a, (![0, 256 * qb.val + 128, 128 * g.val] : Fin 3 → ℕ) a + S1x128x128.size a ≤ S1x1024x640.size a := by
  revert g qb; decide

include hW

/-- The first 128 queries of a tile, as their codes are stored. -/
theorem codePiece0 (g : Fin 5) (qb : Fin 4) (x : S1x128x128.Idx) :
    codes0 (t L V1 V2 g qb) x = (fun y : S1x1024x640.Idx => W (y 1) (y 2))
      ((Rect.unit (s := S1x1024x640) ![0, 256 * qb.val, 128 * g.val] S1x128x128.size (code_inb0 g qb)).emb x) := by
  obtain ⟨z, i, d, rfl⟩ : ∃ (z : Fin 1) (i d : Fin 128), x = ix3 z i d := ⟨x 0, x 1, x 2, eq_ix3 x⟩
  obtain rfl : z = 0 := Subsingleton.elim _ _
  rw [codes0_apply, hW]
  refine congrArg₂ W (Fin.ext ?_) (Fin.ext ?_)
  · show qb.val * 256 + i.val = 256 * qb.val + 1 * i.val; omega
  · show g.val * 128 + d.val = 128 * g.val + 1 * d.val; omega

/-- The last 128 queries of a tile, as their codes are stored. -/
theorem codePiece1 (g : Fin 5) (qb : Fin 4) (x : S1x128x128.Idx) :
    codes1 (t L V1 V2 g qb) x = (fun y : S1x1024x640.Idx => W (y 1) (y 2))
      ((Rect.unit (s := S1x1024x640) ![0, 256 * qb.val + 128, 128 * g.val] S1x128x128.size (code_inb1 g qb)).emb x) := by
  obtain ⟨z, i, d, rfl⟩ : ∃ (z : Fin 1) (i d : Fin 128), x = ix3 z i d := ⟨x 0, x 1, x 2, eq_ix3 x⟩
  obtain rfl : z = 0 := Subsingleton.elim _ _
  rw [codes1_apply, hW]
  refine congrArg₂ W (Fin.ext ?_) (Fin.ext ?_)
  · show qb.val * 256 + (128 + i.val) = 256 * qb.val + 128 + 1 * i.val; omega
  · show g.val * 128 + d.val = 128 * g.val + 1 * d.val; omega

/-- The block of codes. -/
theorem codes_canon (y : S1x1024x640.Idx) : View.canon (codes L V1 V2) y = W (y 1) (y 2) := by
  have hp : View.PiecesOf (Val := Elt Ideal) (s := S1x1024x640) (e := .fp8e4m3) (fun y => W (y 1) (y 2)) (codes L V1 V2) :=
    ⟨codePiece1 hW 4 3, codePiece0 hW 4 3, codePiece1 hW 4 2, codePiece0 hW 4 2,
      codePiece1 hW 4 1, codePiece0 hW 4 1, codePiece1 hW 4 0, codePiece0 hW 4 0,
      codePiece1 hW 3 3, codePiece0 hW 3 3, codePiece1 hW 3 2, codePiece0 hW 3 2,
      codePiece1 hW 3 1, codePiece0 hW 3 1, codePiece1 hW 3 0, codePiece0 hW 3 0,
      codePiece1 hW 2 3, codePiece0 hW 2 3, codePiece1 hW 2 2, codePiece0 hW 2 2,
      codePiece1 hW 2 1, codePiece0 hW 2 1, codePiece1 hW 2 0, codePiece0 hW 2 0,
      codePiece1 hW 1 3, codePiece0 hW 1 3, codePiece1 hW 1 2, codePiece0 hW 1 2,
      codePiece1 hW 1 1, codePiece0 hW 1 1, codePiece1 hW 1 0, codePiece0 hW 1 0,
      codePiece1 hW 0 3, codePiece0 hW 0 3, codePiece1 hW 0 2, codePiece0 hW 0 2,
      codePiece1 hW 0 1, codePiece0 hW 0 1, codePiece1 hW 0 0, codePiece0 hW 0 0, trivial⟩
  exact View.canon_apply_of_pieces (fun y : S1x1024x640.Idx => W (y 1) (y 2)) (codes L V1 V2) hp.mem y
    (View.cover_of_tiledL (codes L V1 V2) S1x128x128.size (by sl_kernel_rfl) y)

end

variable {L : Loads Ideal} {x : SX.Idx → EReal} {k v : SK.Idx → EReal} {qs : SH.Idx → EReal} {ks vs : SG.Idx → EReal}
  {os : SH.Idx → EReal} {b : Fin 2} {kv : Fin 6}
  (V1 : View sig .tc .vmem S128x1024 .bf16) (V2 : View sig .tc .vmem S2x1024x256 .f32)

/-- The codes a point stores are the clipped quotients of the specification's outputs by the output scales. -/
theorem codes_apply (H : L.Of x k v qs ks vs os b kv) (hos : ∀ h, ∃ r : ℝ, 0 < r ∧ os h = (r : EReal)) (q : Fin 1024) (g : Fin 5) (d : Fin 128) :
    View.canon (codes L V1 V2) (ix3 0 q (lane g d))
      = Spec.clip (Ideal.div (Spec.out x k v qs ks vs b kv g q d) (os (ix1 (Spec.head kv g)))) := by
  rw [codes_canon (W := fun q l => Spec.clip (Ideal.div (Spec.out x k v qs ks vs b kv ⟨l.val / 128, by omega⟩ q ⟨l.val % 128, Nat.mod_lt _ (by decide)⟩)
    (os (ix1 (Spec.head kv ⟨l.val / 128, by omega⟩)))))]
  · have e1 : (⟨(g.val * 128 + d.val) / 128, by omega⟩ : Fin 5) = g := Fin.ext (by show (g.val * 128 + d.val) / 128 = g.val; omega)
    have e2 : (⟨(g.val * 128 + d.val) % 128, by omega⟩ : Fin 128) = d := Fin.ext (by show (g.val * 128 + d.val) % 128 = d.val; omega)
    show Spec.clip (Ideal.div (Spec.out x k v qs ks vs b kv ⟨(g.val * 128 + d.val) / 128, _⟩ q ⟨(g.val * 128 + d.val) % 128, _⟩)
      (os (ix1 (Spec.head kv ⟨(g.val * 128 + d.val) / 128, _⟩)))) = _
    rw [e1, e2]
  · intro g qb d j
    have e1 : (⟨(g.val * 128 + d.val) / 128, by omega⟩ : Fin 5) = g := Fin.ext (by show (g.val * 128 + d.val) / 128 = g.val; omega)
    have e2 : (⟨(g.val * 128 + d.val) % 128, by omega⟩ : Fin 128) = d := Fin.ext (by show (g.val * 128 + d.val) % 128 = d.val; omega)
    obtain ⟨r, hr, ho⟩ := hos (ix1 (Spec.head kv g))
    rw [t_apply H V1 V2 g hr ho qb d j]
    show _ = Spec.clip (Ideal.div (Spec.out x k v qs ks vs b kv ⟨(g.val * 128 + d.val) / 128, _⟩ (place qb j) ⟨(g.val * 128 + d.val) % 128, _⟩)
      (os (ix1 (Spec.head kv ⟨(g.val * 128 + d.val) / 128, _⟩))))
    rw [e1, e2]

/-- A head's absolute maximum over one batch. -/
def peak (x : SX.Idx → EReal) (k v : SK.Idx → EReal) (qs : SH.Idx → EReal) (ks vs : SG.Idx → EReal) (b : Fin 2) (kv : Fin 6) (g : Fin 5) : EReal :=
  Finset.univ.sup fun q : Fin 1024 => Finset.univ.sup fun d : Fin 128 => abs (Spec.out x k v qs ks vs b kv g q d)

/-- One tile's absolute maximum, in the units of the output. -/
theorem tile_peak (H : L.Of x k v qs ks vs os b kv) (g : Fin 5) {r : ℝ} (hr : 0 < r) (ho : os (ix1 (Spec.head kv g)) = (r : EReal)) (qb : Fin 4) :
    (Finset.univ.sup fun j : Fin 256 => Finset.univ.sup fun d : Fin 128 => abs (t L V1 V2 g qb (ix2 d j))) * (r : EReal)
      = Finset.univ.sup fun j : Fin 256 => Finset.univ.sup fun d : Fin 128 => abs (Spec.out x k v qs ks vs b kv g (place qb j) d) := by
  rw [sup_mul_coe _ hr]
  refine Finset.sup_congr rfl fun j _ => ?_
  rw [sup_mul_coe _ hr]
  refine Finset.sup_congr rfl fun d _ => ?_
  rw [t_apply H V1 V2 g hr ho qb d j, ho, abs_div_mul hr]

/-- A head's absolute maximum, in the units of the output. -/
theorem tmax_peak (H : L.Of x k v qs ks vs os b kv) (hos : ∀ h, ∃ r : ℝ, 0 < r ∧ os h = (r : EReal)) (g : Fin 5) :
    (Finset.univ.sup fun l : Fin 128 => Finset.univ.sup fun r : Fin 8 => tmax L V1 V2 g (ix2 r l)) * L.os g
      = peak x k v qs ks vs b kv g := by
  obtain ⟨r, hr, ho⟩ := hos (ix1 (Spec.head kv g))
  have m : ∀ a c : EReal, max a c * (r : EReal) = max (a * r) (c * r) := fun a c => (mul_coe_mono hr).map_max
  have z : (Finset.univ.sup fun l : Fin 128 => Finset.univ.sup fun r : Fin 8 => absZero (F := Ideal) (ix2 r l)) = 0 := by
    simp only [absZero_apply]
    rw [Finset.sup_const Finset.univ_nonempty, Finset.sup_const Finset.univ_nonempty]
  rw [H.os, ho, tmax, absStep_sup, absStep_sup, absStep_sup, absStep_sup, z, m, m, m, m, tile_peak V1 V2 H g hr ho, tile_peak V1 V2 H g hr ho,
    tile_peak V1 V2 H g hr ho, tile_peak V1 V2 H g hr ho, zero_mul, peak, sup_blocks]
  rw [max_eq_right (a := (0 : EReal))]
  exact le_trans (abs_nonneg _) (le_trans (Finset.le_sup (f := fun d : Fin 128 => abs (Spec.out x k v qs ks vs b kv g (place 0 0) d)) (Finset.mem_univ 0))
    (Finset.le_sup (f := fun j : Fin 256 => Finset.univ.sup fun d : Fin 128 => abs (Spec.out x k v qs ks vs b kv g (place 0 j) d)) (Finset.mem_univ 0)))

/-- Joining a head's absolute maximum into its lane. -/
theorem join_apply (H : L.Of x k v qs ks vs os b kv) (hos : ∀ h, ∃ r : ℝ, 0 < r ∧ os h = (r : EReal)) (g : Fin 5) (a : FVec Ideal S1x30 .f32) (j : Fin 30) :
    join L V1 V2 g a (ix2 0 j) = if j.val = kv.val * 5 + g.val then max (a (ix2 0 j)) (peak x k v qs ks vs b kv g) else a (ix2 0 j) := by
  rw [join, amaxStep_apply, tmax_peak V1 V2 H hos, H.head]
  refine if_congr ⟨fun h => ?_, fun h => by rw [h]⟩ rfl rfl
  have h' := congrArg BitVec.toNat h
  simp only [BitVec.toNat_ofNat] at h'
  omega

/-- The absolute maxima after a point. -/
theorem amaxOut_apply (H : L.Of x k v qs ks vs os b kv) (hos : ∀ h, ∃ r : ℝ, 0 < r ∧ os h = (r : EReal)) (kv' : Fin 6) (g : Fin 5) :
    amaxOut L V1 V2 (ix2 0 (Spec.head kv' g)) = if kv' = kv then max (L.amax (ix2 0 (Spec.head kv' g))) (peak x k v qs ks vs b kv g)
      else L.amax (ix2 0 (Spec.head kv' g)) := by
  have e : ∀ n : Fin 5, (kv'.val * 5 + g.val = kv.val * 5 + n.val) = (kv' = kv ∧ g = n) := fun n => propext
    ⟨fun h => ⟨Fin.ext (by omega), Fin.ext (by omega)⟩, fun h => by rw [h.1, h.2]⟩
  rw [amaxOut, shapeCast_id]
  simp only [join_apply V1 V2 H hos, e]
  by_cases h : kv' = kv
  · fin_cases g <;> simp [h]
  · simp [h]

end Cert.KernelIdeal.Point

end
-- ==== Proof.Kernel.Step.lean ====
/- What one grid point does to the carried state over exact numbers: it stores its block of codes, joins its five heads'
   absolute maxima into their lanes and keeps the mask. -/
module

public import proofs.«01_k».proof.Proof.Gen.KernelIdeal.Value
public import proofs.«01_k».proof.Proof.Kernel.Run
public import proofs.«01_k».proof.Proof.Kernel.Blocks
public import proofs.«01_k».proof.Proof.Kernel.LoadsValue
public import proofs.«01_k».proof.Proof.Kernel.PointOut

@[expose] public section

set_option maxRecDepth 16384

noncomputable section

namespace Cert.KernelIdeal.Step

open Idealize.ShloMosaic Idealize.ShloMosaic.TcCoe Idealize.ShloMosaic.Tactic Idealize.SL.Sem
open Cert.KernelIdeal.Gen Cert.KernelIdeal.Unit Cert.KernelIdeal.Point Cert.KernelIdeal.Blocks Cert.RowMath

/-- A window over the whole of a matrix starts at the origin. -/
theorem off2 : (![0, 0] : Fin 2 → ℕ) = fun _ => 0 := by funext a; match a with | ⟨0, _⟩ => rfl | ⟨1, _⟩ => rfl

/-- Reading all of the mask's scratch reads what it holds. -/
theorem readMask {a : Memref sig .tc .vmem S128x128 .f32} (h : a.IsWhole) (X : Vec Ideal S128x128 .f32) :
    View.readAt (Elt Ideal) a.view (Rect.unit (s := S128x128) ![0, 0] S128x128.size inb_S128x128_S128x128_0_0).toLoadRect (h.unread X) = X := by
  funext y
  refine (h.readAt_unread X _ _).trans (congrArg X ?_)
  funext a
  apply Fin.ext
  match a with
  | ⟨0, _⟩ => show 0 + 1 * (y 0).val = (y 0).val; omega
  | ⟨1, _⟩ => show 0 + 1 * (y 1).val = (y 1).val; omega

/-- Reading all of the maxima's block reads what it holds. -/
theorem readAmax {a : Memref sig .tc .vmem S1x30 .f32} (h : a.IsWhole) (X : Vec Ideal S1x30 .f32) :
    View.readAt (Elt Ideal) a.view (Rect.unit (s := S1x30) ![0, 0] S1x30.size inb_S1x30_S1x30_0_0).toLoadRect (h.unread X) = X := by
  funext y
  refine (h.readAt_unread X _ _).trans (congrArg X ?_)
  funext a
  apply Fin.ext
  match a with
  | ⟨0, _⟩ => show 0 + 1 * (y 0).val = (y 0).val; omega
  | ⟨1, _⟩ => show 0 + 1 * (y 1).val = (y 1).val; omega

variable (m : (ℓ : Loc nD τ sig) → Buf (Elt Ideal) ℓ) (c : Dev nD) (t : Fin cfg0.N)

/-- What point `t` loads, the mask in place. -/
def at_ (amax : Vec Ideal S1x30 .f32) : Loads Ideal :=
  loads (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (iblk m c 0 t) (iblk m c 1 t) (iblk m c 2 t) (iblk m c 3 t) (iblk m c 4 t) (iblk m c 5 t) (iblk m c 6 t) maskI amax

/-- What point `t` loads are the blocks of the arguments for its batch and key head. -/
theorem at_of (amax : Vec Ideal S1x30 .f32) : (at_ m c t amax).Of (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (bOf t) (kvOf t) :=
  loads_of _ _ _ _ _ _ _ _ _ _ _ _ _ _ _ _ _ _ _ _ _ _ _ _ _ _ _ _ _ _ _ _ (coord t) (blk0 m c t) (blk1 m c t) (blk2 m c t) (blk3 m c t) (blk4 m c t) (blk5 m c t) (blk6 m c t)

/-- The state a point leaves, from the maxima it found. -/
def leave (amax : Vec Ideal S1x30 .f32) : Vec Ideal S1x1024x640 .fp8e4m3 × Vec Ideal S1x30 .f32 × Vec Ideal S128x128 .f32 :=
  (View.canon (codes (at_ m c t amax) scM0_0.view scM0_1.view), amaxOut (at_ m c t amax) scM0_0.view scM0_1.view, maskI)

/-- A later point. -/
theorem stepB (acc : Vec Ideal S1x1024x640 .fp8e4m3 × Vec Ideal S1x30 .f32 × Vec Ideal S128x128 .f32) (h0 : ¬t.val % 12 = 0) (hm : acc.2.2 = maskI) :
    Value.stAt0 m c t.val t.isLt acc = leave m c t acc.2.1 := by
  rw [Value.stAt0_B m c t acc h0]
  refine Prod.ext ?_ (Prod.ext ?_ hm)
  · unfold out0_B_7 leave
    dsimp only
    rw [View.read_writes_junk_eq_canon, runB_codes (F := Ideal), readMask, readAmax, hm]
    rfl
  · unfold out0_B_8 leave
    dsimp only
    rw [View.read_writes_junk_eq_canon, runB_amax (F := Ideal), readMask, readAmax, hm]
    exact View.canon_cons_unit_zero off2 _ _ _

/-- The first point. -/
theorem stepA (acc : Vec Ideal S1x1024x640 .fp8e4m3 × Vec Ideal S1x30 .f32 × Vec Ideal S128x128 .f32) (h0 : t.val % 12 = 0) :
    Value.stAt0 m c t.val t.isLt acc = leave m c t amaxZero := by
  rw [Value.stAt0_A m c t acc h0]
  refine Prod.ext ?_ (Prod.ext ?_ ?_)
  · unfold out0_A_7 leave
    dsimp only
    rw [View.read_writes_junk_eq_canon, runA_codes (F := Ideal), View.readCov_cons_toLoadRect, View.readCov_cons_toLoadRect]
    rfl
  · unfold out0_A_8 leave
    dsimp only
    rw [View.read_writes_junk_eq_canon, runA_amax (F := Ideal), View.readCov_cons_toLoadRect, View.readCov_cons_toLoadRect]
    exact View.canon_cons_unit_zero off2 _ _ _
  · unfold sout0_A_2 leave
    dsimp only
    rw [View.read_writes_junk_eq_canon, runA_mask (F := Ideal)]
    exact View.canon_cons_unit_zero off2 _ _ _

end Cert.KernelIdeal.Step

end
-- ==== Proof.Kernel.Fold.lean ====
/- The carried state after every grid point over exact numbers, and the kernel's two result arrays. -/
module

public import proofs.«01_k».proof.Proof.Kernel.Step

@[expose] public section

set_option maxRecDepth 16384

noncomputable section

namespace Cert.KernelIdeal.Fold

open Idealize.ShloMosaic Idealize.ShloMosaic.TcCoe Idealize.ShloMosaic.Tactic Idealize.SL.Sem
open Cert.KernelIdeal.Gen Cert.KernelIdeal.Unit Cert.KernelIdeal.Point Cert.KernelIdeal.Blocks Cert.KernelIdeal.Step Cert.RowMath
open Cert.Spec (qlane klane)

variable (m : (ℓ : Loc nD τ sig) → Buf (Elt Ideal) ℓ) (c : Dev nD)

/-- The grid has twelve points. -/
theorem lt12 {n : ℕ} (h : n < cfg0.N) : n < 12 := lt_of_lt_of_eq h (show cfg0.N = 12 from N_0)

/-- The first point starts from cleared maxima. -/
theorem outs_zero (h : 0 < cfg0.N) : outsAt0 m c 0 h = leave m c ⟨0, h⟩ amaxZero := by
  rw [Value.outsAt0_zero]
  exact stepA m c ⟨0, h⟩ _ (Nat.zero_mod _)

/-- Every point leaves the mask in place. -/
theorem outs_mask : ∀ (n : ℕ) (h : n < cfg0.N), (outsAt0 m c n h).2.2 = maskI
  | 0, h => by rw [outs_zero]; rfl
  | n + 1, h => by
    have hN := lt12 h
    rw [Value.outsAt0_succ]
    exact congrArg (·.2.2) (stepB m c ⟨n + 1, h⟩ _ (by show ¬ (n + 1) % 12 = 0; omega) (outs_mask n _))

/-- A later point starts from the maxima the point before left. -/
theorem outs_succ (n : ℕ) (h : n + 1 < cfg0.N) :
    outsAt0 m c (n + 1) h = leave m c ⟨n + 1, h⟩ (outsAt0 m c n (Nat.lt_of_succ_lt h)).2.1 := by
  have hN := lt12 h
  rw [Value.outsAt0_succ]
  exact stepB m c ⟨n + 1, h⟩ _ (by show ¬ (n + 1) % 12 = 0; omega) (outs_mask m c n _)

variable (hos : ∀ h, ∃ r : ℝ, 0 < r ∧ m ((c : Thread nD τ).loc main_arg6) h = (r : EReal))
include hos

/-- The attention output of the kernel's arguments. -/
abbrev outOf (b : Fin 2) (kv : Fin 6) (g : Fin 5) (q : Fin 1024) (d : Fin 128) : EReal :=
  Spec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b kv g q d

/-- A head's absolute maximum over one batch of the kernel's arguments. -/
abbrev peakOf (b : Fin 2) (kv : Fin 6) (g : Fin 5) : EReal :=
  peak (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b kv g

/-- The block of codes a point stores. -/
theorem leave_codes (t : Fin cfg0.N) (a : Vec Ideal S1x30 .f32) (g : Fin 5) (q : Fin 1024) (d : Fin 128) :
    (leave m c t a).1 (ix3 0 q (lane g d))
      = Spec.clip (Ideal.div (outOf m c (bOf t) (kvOf t) g q d) (m ((c : Thread nD τ).loc main_arg6) (ix1 (Spec.head (kvOf t) g)))) := by
  have e := Point.codes_apply scM0_0.view scM0_1.view (at_of m c t a) hos q g d
  exact e

/-- The block of codes each point leaves. -/
theorem outs_codes (g : Fin 5) (q : Fin 1024) (d : Fin 128) : ∀ (n : ℕ) (h : n < cfg0.N),
    (outsAt0 m c n h).1 (ix3 0 q (lane g d))
      = Spec.clip (Ideal.div (outOf m c (bOf ⟨n, h⟩) (kvOf ⟨n, h⟩) g q d) (m ((c : Thread nD τ).loc main_arg6) (ix1 (Spec.head (kvOf ⟨n, h⟩) g))))
  | 0, h => by rw [outs_zero]; exact leave_codes m c hos _ _ g q d
  | n + 1, h => by rw [outs_succ]; exact leave_codes m c hos _ _ g q d

/-- What a point does to a lane of the maxima. -/
theorem leave_amax (t : Fin cfg0.N) (a : Vec Ideal S1x30 .f32) (kv : Fin 6) (g : Fin 5) :
    (leave m c t a).2.1 (ix2 0 (Spec.head kv g)) = if kv = kvOf t then max (a (ix2 0 (Spec.head kv g))) (peakOf m c (bOf t) kv g)
      else a (ix2 0 (Spec.head kv g)) := by
  refine (amaxOut_apply _ _ (at_of m c t a) hos kv g).trans ?_
  by_cases h : kv = kvOf t
  · rw [if_pos h, if_pos h, ← h]; rfl
  · rw [if_neg h, if_neg h]; rfl

omit hos in
/-- The maxima start at zero. -/
theorem amaxZero_apply (j : Fin 30) : amaxZero (F := Ideal) (ix2 0 j) = 0 := by
  pointwise [amaxZero]

/-- The maxima after each point: a lane is zero until its key head's first point, and complete after its second. -/
theorem outs_amax (kv : Fin 6) (g : Fin 5) : ∀ (n : ℕ) (h : n < cfg0.N), (outsAt0 m c n h).2.1 (ix2 0 (Spec.head kv g))
    = if n < kv.val * 2 then 0 else if n = kv.val * 2 then max 0 (peakOf m c 0 kv g) else max (max 0 (peakOf m c 0 kv g)) (peakOf m c 1 kv g)
  | 0, h => by
    rw [outs_zero, leave_amax m c hos, amaxZero_apply]
    by_cases e : kv = kvOf ⟨0, h⟩
    · have e' : kv.val = 0 / 2 := congrArg Fin.val e
      rw [if_pos e, if_neg (by omega), if_pos (by omega)]
      rfl
    · have e' : ¬ kv.val = 0 / 2 := fun h => e (Fin.ext h)
      rw [if_neg e, if_pos (by omega)]
  | n + 1, h => by
    rw [outs_succ, leave_amax m c hos, outs_amax kv g n]
    by_cases e : kv = kvOf ⟨n + 1, h⟩
    · have e' : kv.val = (n + 1) / 2 := congrArg Fin.val e
      rw [if_pos e, if_neg (by omega : ¬ n + 1 < kv.val * 2)]
      rcases Nat.mod_two_eq_zero_or_one (n + 1) with hm | hm
      · have eb : bOf ⟨n + 1, h⟩ = 0 := Fin.ext hm
        rw [if_pos (by omega : n < kv.val * 2), if_pos (by omega : n + 1 = kv.val * 2), eb]
      · have eb : bOf ⟨n + 1, h⟩ = 1 := Fin.ext hm
        rw [if_neg (by omega : ¬ n < kv.val * 2), if_pos (by omega : n = kv.val * 2), if_neg (by omega : ¬ n + 1 = kv.val * 2), eb]
    · have e' : ¬ kv.val = (n + 1) / 2 := fun h => e (Fin.ext h)
      rw [if_neg e]
      by_cases h1 : n + 1 < kv.val * 2
      · rw [if_pos (by omega), if_pos h1]
      · rw [if_neg (by omega), if_neg (by omega), if_neg h1, if_neg (by omega)]

omit hos in
/-- A head's maximum is at least zero. -/
theorem peakOf_nonneg (b : Fin 2) (kv : Fin 6) (g : Fin 5) : 0 ≤ peakOf m c b kv g :=
  le_trans (abs_nonneg _) (le_trans (Finset.le_sup (f := fun d : Fin 128 => abs (outOf m c b kv g 0 d)) (Finset.mem_univ 0))
    (Finset.le_sup (f := fun q : Fin 1024 => Finset.univ.sup fun d : Fin 128 => abs (outOf m c b kv g q d)) (Finset.mem_univ 0)))

/-- The kernel's maxima. -/
theorem amax_apply (kv : Fin 6) (g : Fin 5) : Value.G8 m c (ix2 0 (Spec.head kv g))
    = Finset.univ.sup fun b : Fin 2 => peakOf m c b kv g := by
  have h11 : 11 < cfg0.N := lt_of_lt_of_eq (by decide) N_0.symm
  rw [Value.G8_last, ← Value.outsAt0_sweep m c 11 h11, outs_amax m c hos kv g 11 h11, if_neg (by omega), if_neg (by omega), max_eq_right (peakOf_nonneg m c 0 kv g), sup_two]

/-- The kernel's codes. -/
theorem codes_apply (b : Fin 2) (kv : Fin 6) (g : Fin 5) (q : Fin 1024) (d : Fin 128) : Value.G7 m c (ix3 b q (qlane kv g d))
    = Spec.clip (Ideal.div (outOf m c b kv g q d) (m ((c : Thread nD τ).loc main_arg6) (ix1 (Spec.head kv g)))) := by
  have hp : Value.pt7Of (ix3 b q (qlane kv g d)) = kv.val * 2 + b.val := by
    show 1 * (b.val / 1 - 0) + 2 * (q.val / 1024 - 0) + 2 * ((kv.val * 640 + g.val * 128 + d.val) / 640 - 0) = _
    omega
  have hN : Value.pt7Of (ix3 b q (qlane kv g d)) < cfg0.N := by rw [hp]; exact lt_of_lt_of_eq (by omega : _ < 12) N_0.symm
  have hl : Value.loc7Of (ix3 b q (qlane kv g d)) = ix3 0 q ⟨g.val * 128 + d.val, by omega⟩ := by
    funext a
    apply Fin.ext
    match a with
    | ⟨0, _⟩ => show b.val % 1 = 0; omega
    | ⟨1, _⟩ => show q.val % 1024 = q.val; omega
    | ⟨2, _⟩ => show (kv.val * 640 + g.val * 128 + d.val) % 640 = g.val * 128 + d.val; omega
  unfold Value.G7
  rw [dif_pos hN, hl, ← Value.outsAt0_sweep m c _ hN, outs_codes m c hos g q d _ hN]
  have eb : bOf ⟨Value.pt7Of (ix3 b q (qlane kv g d)), hN⟩ = b := Fin.ext (by show Value.pt7Of (ix3 b q (qlane kv g d)) % 2 = b.val; rw [hp]; omega)
  have ek : kvOf ⟨Value.pt7Of (ix3 b q (qlane kv g d)), hN⟩ = kv := Fin.ext (by show Value.pt7Of (ix3 b q (qlane kv g d)) / 2 = kv.val; rw [hp]; omega)
  rw [eb, ek]

end Cert.KernelIdeal.Fold

end
-- ==== Proof.ReferenceValue.lean ====
module

public import proofs.«01_k».proof.Proof.ReferenceArrays
public import proofs.«01_k».proof.Proof.Spec

/-! # The reference's two results, read at an index -/

@[expose] public section

set_option maxRecDepth 16384

noncomputable section

namespace Cert.ReferenceIdeal.Read

open Cert.ReferenceIdeal Cert.ReferenceIdeal.Gen Idealize.ShloMosaic Cert.RowMath Cert.Spec

variable (a0 : Vec Ideal S2x1024x3840 .fp8e4m3) (a1 : Vec Ideal S2x1024x768 .fp8e4m3) (a2 : Vec Ideal S2x1024x768 .fp8e4m3)
  (a3 : Vec Ideal S30 .f32) (a4 a5 : Vec Ideal S6 .f32) (a6 : Vec Ideal S30 .f32)

/-- The root of the constant 128, and a quotient by it. -/
theorem div_sqrt (y : EReal) :
    Ideal.div y (Scalar.sqrt (F := Ideal) (φ := .f32) (Ideal.ofBits FTy.f32 0x43000000#32)) = y * (((Real.sqrt 128)⁻¹ : ℝ) : EReal) := by
  rw [ofBits_128]
  show Ideal.div y (Ideal.sqrt ((128 : ℝ) : EReal)) = _
  rw [Ideal.sqrt_coe, if_neg (by norm_num), RowMath.div_pos (Real.sqrt_pos.mpr (by norm_num))]

/-- The attention output before the value scale. -/
theorem row_apply (b : Fin 2) (kv : Fin 6) (g : Fin 5) (q : Fin 1024) (d : Fin 128) :
    k0_pay4 (F := Ideal) a0 a1 a2 a3 a4 (ix5 b kv g q d)
      = refRow (score a0 a1 a3 a4 b kv g q) (fun key => a2 (ix3 b key (klane kv d))) := by
  have hsc : ∀ x : Fin 1024, Scalar.select (IntOp.cmpi CmpIPredicate.sle (BitVec.ofNat 32 x.val) (BitVec.ofNat 32 q.val))
      ((∑ x_1 : Fin 128, a0 (ix3 b q (qlane kv g x_1)) * a1 (ix3 b x (klane kv x_1))) *
        Ideal.div (a3 (ix1 (head kv g)) * a4 (ix1 kv)) (Scalar.sqrt (F := Ideal) (φ := .f32) (Ideal.ofBits FTy.f32 1124073472#32)))
      (Ideal.ofBits FTy.f32 4286578688#32) = score a0 a1 a3 a4 b kv g q x := by
    intro x
    rw [select_sle _ _ (by omega) (by omega), div_sqrt, ofBits_neg_inf]
    rfl
  pointwise [k0_pay4]
  simp only [hsc]
  rw [ofBits_neg_inf]
  rfl

/-- The whole-block loads of the output stage are the arguments. -/
theorem pay5_eq : Arrays.G7 (F := Ideal) a0 a1 a2 a3 a4 a5 a6 = k0_pay3 (k0_pay4 a0 a1 a2 a3 a4) a5 a6
    ∧ Arrays.G8 (F := Ideal) a0 a1 a2 a3 a4 a5 a6 = k0_pay2 (k0_pay4 a0 a1 a2 a3 a4) a5 := by
  have h : k0_pay5 (F := Ideal) a0 a1 a2 a3 a4 a5 a6 = k0_pay4 a0 a1 a2 a3 a4 := by
    unfold k0_pay5
    rw [View.ld_unit_zero (S := S2x1024x3840) Arrays.hz0 _ a0, View.ld_unit_zero (S := S2x1024x768) Arrays.hz1 _ a1,
      View.ld_unit_zero (S := S2x1024x768) Arrays.hz2 _ a2, View.ld_unit_zero (S := S30) Arrays.hz3 _ a3,
      View.ld_unit_zero (S := S6) Arrays.hz4 _ a4]
  unfold Arrays.G7 Arrays.G8
  rw [h]
  exact ⟨rfl, rfl⟩

/-- The codes: the output over the output scale, clipped. -/
theorem codes_apply (b : Fin 2) (kv : Fin 6) (g : Fin 5) (q : Fin 1024) (d : Fin 128) :
    Arrays.G7 (F := Ideal) a0 a1 a2 a3 a4 a5 a6 (ix3 b q (qlane kv g d))
      = clip (Ideal.div (out a0 a1 a2 a3 a4 a5 b kv g q d) (a6 (ix1 (head kv g)))) := by
  have e1 : (qlane kv g d).val / 640 = kv.val := by show (kv.val * 640 + g.val * 128 + d.val) / 640 = _; omega
  have e2 : (qlane kv g d).val / 128 % 5 = g.val := by show (kv.val * 640 + g.val * 128 + d.val) / 128 % 5 = _; omega
  have e3 : (qlane kv g d).val % 128 = d.val := by show (kv.val * 640 + g.val * 128 + d.val) % 128 = _; omega
  rw [(pay5_eq a0 a1 a2 a3 a4 a5 a6).1]
  unfold out
  rw [← row_apply]
  generalize k0_pay4 (F := Ideal) a0 a1 a2 a3 a4 = X
  generalize hj : qlane kv g d = j at *
  pointwise [k0_pay3, k0_pay1]
  have f1 : (⟨j.val / 640, by omega⟩ : Fin 6) = kv := Fin.ext e1
  have f2 : (⟨j.val / 128 % 5, by omega⟩ : Fin 5) = g := Fin.ext e2
  have f3 : (⟨j.val % 128, by omega⟩ : Fin 128) = d := Fin.ext e3
  have f4 : (⟨j.val / 640 * 5 + j.val / 128 % 5, by omega⟩ : Fin 30) = head kv g :=
    Fin.ext (by show j.val / 640 * 5 + j.val / 128 % 5 = kv.val * 5 + g.val; omega)
  rw [f1, f2, f3, f4]
  rfl

/-- The maxima: the greatest magnitude of a head's outputs. -/
theorem amax_apply (kv : Fin 6) (g : Fin 5) :
    Arrays.G8 (F := Ideal) a0 a1 a2 a3 a4 a5 a6 (ix2 0 (head kv g))
      = Finset.univ.sup fun b : Fin 2 => Finset.univ.sup fun q : Fin 1024 => Finset.univ.sup fun d : Fin 128 =>
          abs (out a0 a1 a2 a3 a4 a5 b kv g q d) := by
  rw [(pay5_eq a0 a1 a2 a3 a4 a5 a6).2]
  unfold out
  simp only [← row_apply]
  generalize k0_pay4 (F := Ideal) a0 a1 a2 a3 a4 = X
  have e1 : (head kv g).val / 5 = kv.val := by show (kv.val * 5 + g.val) / 5 = _; omega
  have e2 : (head kv g).val % 5 = g.val := by show (kv.val * 5 + g.val) % 5 = _; omega
  generalize hj : head kv g = h at *
  pointwise [k0_pay2, k0_pay1]
  have f1 : (⟨h.val / 5, by omega⟩ : Fin 6) = kv := Fin.ext e1
  have f2 : (⟨h.val % 5, by omega⟩ : Fin 5) = g := Fin.ext e2
  rw [f1, f2, ofBits_neg_inf, fold_max_bot]
  apply le_antisymm
  · refine Finset.sup_le fun i hi => ?_
    obtain ⟨b, kv', g', q, d, rfl⟩ : ∃ (b : Fin 2) (kv' : Fin 6) (g' : Fin 5) (q : Fin 1024) (d : Fin 128), i = ix5 b kv' g' q d :=
      ⟨i 0, i 1, i 2, i 3, i 4, eq_ix5 i⟩
    have hd := (Finset.mem_filter.mp hi).2
    have h1 : kv' = kv := congrFun hd 0
    have h2 : g' = g := congrFun hd 1
    subst h1 h2
    exact le_trans (le_trans (Finset.le_sup (f := fun d : Fin 128 => abs (X (ix5 b kv' g' q d) * a5 (ix1 kv'))) (Finset.mem_univ d))
      (Finset.le_sup (f := fun q : Fin 1024 => Finset.univ.sup fun d : Fin 128 => abs (X (ix5 b kv' g' q d) * a5 (ix1 kv'))) (Finset.mem_univ q)))
      (Finset.le_sup (f := fun b : Fin 2 => Finset.univ.sup fun q : Fin 1024 => Finset.univ.sup fun d : Fin 128 =>
        abs (X (ix5 b kv' g' q d) * a5 (ix1 kv'))) (Finset.mem_univ b))
  · refine Finset.sup_le fun b _ => Finset.sup_le fun q _ => Finset.sup_le fun d _ => ?_
    refine Finset.le_sup (f := fun x : S2x6x5x1024x128.Idx => FloatOps.absf (X x * a5 (ix1 (x 1)))) (b := ix5 b kv g q d) ?_
    refine Finset.mem_filter.mpr ⟨Finset.mem_univ _, ?_⟩
    funext a
    fin_cases a <;> rfl

end Cert.ReferenceIdeal.Read

end
-- ==== Proof.Agree.lean ====
/- The two programs' result arrays agree: the codes and the maxima, for positive real output scales. -/
module

public import proofs.«01_k».proof.Proof.Kernel.Fold
public import proofs.«01_k».proof.Proof.ReferenceValue

@[expose] public section

set_option maxRecDepth 16384

noncomputable section

namespace Cert.Agree

open Idealize.ShloMosaic Idealize.ShloMosaic.TcCoe Idealize.SL.Sem
open Cert.KernelIdeal Cert.KernelIdeal.Gen Cert.Spec

variable (m : (ℓ : Loc nD τ sig) → Buf (Elt Ideal) ℓ) (c : Dev nD)
  (hos : ∀ h, ∃ r : ℝ, 0 < r ∧ m ((c : Thread nD τ).loc main_arg6) h = (r : EReal))

/-- Every lane of a query row is a lane of some head. -/
theorem lane_split (l : Fin 3840) : ∃ (kv : Fin 6) (g : Fin 5) (d : Fin 128), l = qlane kv g d :=
  ⟨⟨l.val / 640, by omega⟩, ⟨l.val % 640 / 128, by omega⟩, ⟨l.val % 128, by omega⟩,
    Fin.ext (by show l.val = l.val / 640 * 640 + l.val % 640 / 128 * 128 + l.val % 128; omega)⟩

/-- Every head is some place of some group. -/
theorem head_split (h : Fin 30) : ∃ (kv : Fin 6) (g : Fin 5), h = head kv g :=
  ⟨⟨h.val / 5, by omega⟩, ⟨h.val % 5, by omega⟩, Fin.ext (by show h.val = h.val / 5 * 5 + h.val % 5; omega)⟩

include hos

/-- The codes agree. -/
theorem codes_eq : Value.G7 m c = ReferenceIdeal.Arrays.G7 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine funext fun (i : SX.Idx) => ?_
  obtain ⟨b, q, l, rfl⟩ : ∃ (b : Fin 2) (q : Fin 1024) (l : Fin 3840), i = ix3 b q l := ⟨i 0, i 1, i 2, eq_ix3 i⟩
  obtain ⟨kv, g, d, rfl⟩ := lane_split l
  exact (Fold.codes_apply m c hos b kv g q d).trans (ReferenceIdeal.Read.codes_apply _ _ _ _ _ _ _ b kv g q d).symm

/-- The maxima agree. -/
theorem amax_eq : Value.G8 m c = ReferenceIdeal.Arrays.G8 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine funext fun (i : Shape.Idx ⟨2, ![1, 30]⟩) => ?_
  obtain ⟨z, h, rfl⟩ : ∃ (z : Fin 1) (h : Fin 30), i = ix2 z h := ⟨i 0, i 1, eq_ix2 i⟩
  obtain rfl : z = 0 := Subsingleton.elim _ _
  obtain ⟨kv, g, rfl⟩ := head_split h
  exact (Fold.amax_apply m c hos kv g).trans (ReferenceIdeal.Read.amax_apply _ _ _ _ _ _ _ kv g).symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.ReferenceArrays
public import proofs.«01_k».proof.Proof.Precondition
public import proofs.«01_k».proof.Proof.Agree
public import Idealize.ShloMosaic.Adequacy
public import Idealize.ShloMosaic.Init

/-! # The proof of `Cert.Claim`, put together

The frames are the generated ones. The kernel and the reference are compared through their result arrays: each program's
run ends with arrays that are functions of its arguments, and those arrays agree for positive real output scales. -/

@[expose] public section

noncomputable section

namespace Cert.Proof

open Idealize.ShloMosaic Idealize.SL.Sem

/-- The constant the kernel folds its scores with is what the idealized kernel names. -/
theorem preserves : Cert.preserves_Kernel_KernelIdeal :=
  IdealRules.named_const.statement Cert.KernelIdeal.κ "log2e_inv_sqrt_d" .f32 0x3E0293EE#32
    (((Real.log 2)⁻¹ * (Real.sqrt 128)⁻¹ : ℝ) : EReal) rfl

/-- The idealized kernel and the reference end with equal codes and maxima. -/
theorem algebraic : Cert.algebraic_KernelIdeal_ReferenceIdeal_pre_ok := by
  intro m g m' g' hp hm
  refine ⟨fun c => Cert.KernelIdeal.Value.G7 m c, fun c => Cert.KernelIdeal.Value.G8 m c, Cert.KernelIdeal.Value.run m g, ?_⟩
  refine (θ_run _ _ _).mono (fun r h c => ?_) (Cert.ReferenceIdeal.Arrays.run (F := Ideal) m' g')
  obtain ⟨h7, h8, hk⟩ := h c
  obtain ⟨e0, e1, e2, e3, e4, e5, e6⟩ := hm c
  rw [e0, e1, e2, e3, e4, e5, e6] at h7 h8
  have hos := Cert.Pre_ok.scales_pos (hp c)
  exact ⟨h7.trans (Cert.Agree.codes_eq m c hos).symm, h8.trans (Cert.Agree.amax_eq m c hos).symm, hk⟩

theorem claim : Cert.Claim :=
  ⟨Cert.Kernel.Gen.facts, Cert.KernelIdeal.Gen.facts, Cert.ReferenceIdeal.Gen.facts, Cert.Pre_ok.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    preserves, algebraic⟩

end Cert.Proof

end
